-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_negative_nan [hPre_no_negative_nan : Cert.Pre_no_negative_nan.Facts] (m : (ℓ : Loc Cert.KernelIdeal.nD Cert.KernelIdeal.τ Cert.KernelIdeal.sig) → Buf (Elt Ideal) ℓ) : Prop :=
  ∀ c : Dev Cert.KernelIdeal.nD,
    (Cert.Pre_no_negative_nan.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_no_negative_nan.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_negative_nan [hPre_no_negative_nan : Cert.Pre_no_negative_nan.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_negative_nan.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_no_negative_nan.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_no_negative_nan [hKernelIdeal : Cert.KernelIdeal.Facts] [hPre_no_negative_nan : Cert.Pre_no_negative_nan.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_negative_nan m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_no_negative_nan [hReferenceIdeal : Cert.ReferenceIdeal.Facts] [hPre_no_negative_nan : Cert.Pre_no_negative_nan.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_negative_nan m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.BufferStatement Cert.KernelIdeal.S544x2x128 Cert.KernelIdeal.S544x1x128
  ∧ IdealRules.bf16_pair.PackStatement Cert.KernelIdeal.S8x128
  ∧ IdealRules.bf16_pair.Statement Cert.KernelIdeal.S8x2x128 Cert.KernelIdeal.S8x1x128
  ∧ IdealRules.bf16_pair.Statement Cert.KernelIdeal.S64x2x128 Cert.KernelIdeal.S64x1x128
  ∧ IdealRules.bf16_pair.Statement Cert.KernelIdeal.S128x128 Cert.KernelIdeal.S64x128

def algebraic_KernelIdeal_ReferenceIdeal_pre_no_negative_nan [hKernelIdeal : Cert.KernelIdeal.Facts] [hReferenceIdeal : Cert.ReferenceIdeal.Facts] [hPre_no_negative_nan : Cert.Pre_no_negative_nan.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_negative_nan m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_no_negative_nan : Cert.Pre_no_negative_nan.Facts),
    quiescent_Kernel (hKernel := hKernel)
    ∧ quiescent_KernelIdeal (hKernelIdeal := hKernelIdeal)
    ∧ quiescent_KernelIdeal_pre_no_negative_nan (hKernelIdeal := hKernelIdeal) (hPre_no_negative_nan := hPre_no_negative_nan)
    ∧ quiescent_ReferenceIdeal (hReferenceIdeal := hReferenceIdeal)
    ∧ quiescent_ReferenceIdeal_pre_no_negative_nan (hReferenceIdeal := hReferenceIdeal) (hPre_no_negative_nan := hPre_no_negative_nan)
    ∧ preserves_Kernel_KernelIdeal
    ∧ algebraic_KernelIdeal_ReferenceIdeal_pre_no_negative_nan (hKernelIdeal := hKernelIdeal) (hReferenceIdeal := hReferenceIdeal) (hPre_no_negative_nan := hPre_no_negative_nan)
-- ==== Pre_no_negative_nan.lean ====
abbrev S64x1x5120 : Shape := ⟨3, ![64, 1, 5120]⟩
abbrev S27648x2560 : Shape := ⟨2, ![27648, 2560]⟩
abbrev S27648x20 : Shape := ⟨2, ![27648, 20]⟩
abbrev S27648x160 : Shape := ⟨2, ![27648, 160]⟩
abbrev S_ : Shape := ⟨0, ![]⟩

class Facts : Prop where
  natLt_16_32 : 16 < 32
  bcast_S_S27648x20 : S_.BroadcastsInDim S27648x20 (![] : Fin 0 → Fin S27648x20.rank)

variable [Facts]

def fn {F : FTy → Type} [FloatOps F] (main_arg0 : FVec F S64x1x5120 .bf16) (main_arg1 : IVec S27648x2560 8) (main_arg2 : IVec S27648x20 16) (main_arg3 : IVec S27648x20 16) (main_arg4 : IVec S27648x160 8) (main_arg5 : IVec S27648x160 8) : IVec S27648x20 1 × IVec S27648x20 1 :=
  let main_v0 : IVec S27648x20 32 := (extsi 32 · natLt_16_32) main_arg2
  let main_c : IVec S_ 32 := constantI S_ 32 0#32
  let main_v1 : IVec S27648x20 32 := broadcastInDim S27648x20 ![] bcast_S_S27648x20 main_c
  let main_v2 : IVec S27648x20 1 := cmpi .sge main_v0 main_v1
  let main_v3 : IVec S27648x20 32 := (extsi 32 · natLt_16_32) main_arg2
  let main_c_0 : IVec S_ 32 := constantI S_ 32 4294966272#32
  let main_v4 : IVec S27648x20 32 := broadcastInDim S27648x20 ![] bcast_S_S27648x20 main_c_0
  let main_v5 : IVec S27648x20 1 := cmpi .sle main_v3 main_v4
  let main_v6 : IVec S27648x20 1 := ori main_v2 main_v5
  let main_v7 : IVec S27648x20 32 := (extsi 32 · natLt_16_32) main_arg3
  let main_c_1 : IVec S_ 32 := constantI S_ 32 0#32
  let main_v8 : IVec S27648x20 32 := broadcastInDim S27648x20 ![] bcast_S_S27648x20 main_c_1
  let main_v9 : IVec S27648x20 1 := cmpi .sge main_v7 main_v8
  let main_v10 : IVec S27648x20 32 := (extsi 32 · natLt_16_32) main_arg3
  let main_c_2 : IVec S_ 32 := constantI S_ 32 4294966272#32
  let main_v11 : IVec S27648x20 32 := broadcastInDim S27648x20 ![] bcast_S_S27648x20 main_c_2
  let main_v12 : IVec S27648x20 1 := cmpi .sle main_v10 main_v11
  let main_v13 : IVec S27648x20 1 := ori main_v9 main_v12
  (main_v6, main_v13)
-- ==== Kernel.lean ====
abbrev S64x1x5120 : Shape := ⟨3, ![64, 1, 5120]⟩
abbrev S27648x2560 : Shape := ⟨2, ![27648, 2560]⟩
abbrev S27648x20 : Shape := ⟨2, ![27648, 20]⟩
abbrev S27648x160 : Shape := ⟨2, ![27648, 160]⟩
abbrev S64x5120 : Shape := ⟨2, ![64, 5120]⟩
abbrev S512 : Shape := ⟨1, ![512]⟩
abbrev S512x1 : Shape := ⟨2, ![512, 1]⟩
abbrev S1x512 : Shape := ⟨2, ![1, 512]⟩
abbrev S_ : Shape := ⟨0, ![]⟩
abbrev S512x512 : Shape := ⟨2, ![512, 512]⟩
abbrev S64x27648 : Shape := ⟨2, ![64, 27648]⟩
abbrev S1024x2560 : Shape := ⟨2, ![1024, 2560]⟩
abbrev S1024x20 : Shape := ⟨2, ![1024, 20]⟩
abbrev S1024x160 : Shape := ⟨2, ![1024, 160]⟩
abbrev S64x1024 : Shape := ⟨2, ![64, 1024]⟩
abbrev S160x128 : Shape := ⟨2, ![160, 128]⟩
abbrev S128x128 : Shape := ⟨2, ![128, 128]⟩
abbrev S544x128 : Shape := ⟨2, ![544, 128]⟩
abbrev S512x128 : Shape := ⟨2, ![512, 128]⟩
abbrev S512x32 : Shape := ⟨2, ![512, 32]⟩
abbrev S128x32 : Shape := ⟨2, ![128, 32]⟩
abbrev S32x128 : Shape := ⟨2, ![32, 128]⟩
abbrev S512x20 : Shape := ⟨2, ![512, 20]⟩
abbrev S128x20 : Shape := ⟨2, ![128, 20]⟩
abbrev S512x2x20 : Shape := ⟨3, ![512, 2, 20]⟩
abbrev S128x2x20 : Shape := ⟨3, ![128, 2, 20]⟩
abbrev S128x1x20 : Shape := ⟨3, ![128, 1, 20]⟩
abbrev S20x128 : Shape := ⟨2, ![20, 128]⟩
abbrev S8x128 : Shape := ⟨2, ![8, 128]⟩
abbrev S64x128 : Shape := ⟨2, ![64, 128]⟩
abbrev S2x128 : Shape := ⟨2, ![2, 128]⟩
abbrev S256x128 : Shape := ⟨2, ![256, 128]⟩
abbrev S64x256 : Shape := ⟨2, ![64, 256]⟩
abbrev S128x256 : Shape := ⟨2, ![128, 256]⟩
abbrev S256x256 : Shape := ⟨2, ![256, 256]⟩
abbrev S64x512 : Shape := ⟨2, ![64, 512]⟩

abbrev nBuf : Space → Nat
  | .hbm => 60
  | .vmem => 26
  | .smem => 0
  | _ => 0

abbrev bufTy : (tb : Table) → Fin (tcTables nBuf tb) → BufTy
  | .hbm, ⟨0, _⟩ => ⟨S64x1x5120, .bf16⟩
  | .hbm, ⟨1, _⟩ => ⟨S27648x2560, .i8⟩
  | .hbm, ⟨2, _⟩ => ⟨S27648x20, .i16⟩
  | .hbm, ⟨3, _⟩ => ⟨S27648x20, .i16⟩
  | .hbm, ⟨4, _⟩ => ⟨S27648x160, .i8⟩
  | .hbm, ⟨5, _⟩ => ⟨S27648x160, .i8⟩
  | .hbm, ⟨6, _⟩ => ⟨S64x5120, .bf16⟩
  | .hbm, ⟨7, _⟩ => ⟨S512, .i32⟩
  | .hbm, ⟨8, _⟩ => ⟨S512x1, .i32⟩
  | .hbm, ⟨9, _⟩ => ⟨S512, .i32⟩
  | .hbm, ⟨10, _⟩ => ⟨S1x512, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S512x1, .i32⟩
  | .hbm, ⟨18, _⟩ => ⟨S512x1, .i32⟩
  | .hbm, ⟨19, _⟩ => ⟨S_, .i32⟩
  | .hbm, ⟨20, _⟩ => ⟨S512x1, .i32⟩
  | .hbm, ⟨21, _⟩ => ⟨S512x1, .i1⟩
  | .hbm, ⟨22, _⟩ => ⟨S_, .i32⟩
  | .hbm, ⟨23, _⟩ => ⟨S512x1, .i32⟩
  | .hbm, ⟨24, _⟩ => ⟨S512x1, .i1⟩
  | .hbm, ⟨25, _⟩ => ⟨S_, .i32⟩
  | .hbm, ⟨26, _⟩ => ⟨S_, .i1⟩
  | .hbm, ⟨27, _⟩ => ⟨S512x1, .i1⟩
  | .hbm, ⟨28, _⟩ => ⟨S512x1, .i1⟩
  | .hbm, ⟨29, _⟩ => ⟨S512x1, .i1⟩
  | .hbm, ⟨30, _⟩ => ⟨S512x1, .i32⟩
  | .hbm, ⟨31, _⟩ => ⟨S512x1, .i32⟩
  | .hbm, ⟨32, _⟩ => ⟨S512x1, .i32⟩
  | .hbm, ⟨33, _⟩ => ⟨S_, .i32⟩
  | .hbm, ⟨34, _⟩ => ⟨S512x1, .i32⟩
  | .hbm, ⟨35, _⟩ => ⟨S512x1, .i32⟩
  | .hbm, ⟨36, _⟩ => ⟨S_, .i32⟩
  | .hbm, ⟨37, _⟩ => ⟨S_, .i32⟩
  | .hbm, ⟨38, _⟩ => ⟨S512x1, .i32⟩
  | .hbm, ⟨39, _⟩ => ⟨S512x1, .i32⟩
  | .hbm, ⟨40, _⟩ => ⟨S512x1, .i32⟩
  | .hbm, ⟨41, _⟩ => ⟨S_, .i32⟩
  | .hbm, ⟨42, _⟩ => ⟨S512x1, .i32⟩
  | .hbm, ⟨43, _⟩ => ⟨S512x1, .i1⟩
  | .hbm, ⟨44, _⟩ => ⟨S512x1, .i32⟩
  | .hbm, ⟨45, _⟩ => ⟨S512x1, .i32⟩
  | .hbm, ⟨46, _⟩ => ⟨S_, .i32⟩
  | .hbm, ⟨47, _⟩ => ⟨S512x1, .i32⟩
  | .hbm, ⟨48, _⟩ => ⟨S512x1, .i1⟩
  | .hbm, ⟨49, _⟩ => ⟨S512x1, .i1⟩
  | .hbm, ⟨50, _⟩ => ⟨S_, .i32⟩
  | .hbm, ⟨51, _⟩ => ⟨S512x1, .i32⟩
  | .hbm, ⟨52, _⟩ => ⟨S512x1, .i32⟩
  | .hbm, ⟨53, _⟩ => ⟨S512x1, .i32⟩
  | .hbm, ⟨54, _⟩ => ⟨S512x1, .i32⟩
  | .hbm, ⟨55, _⟩ => ⟨S512x512, .i32⟩
  | .hbm, ⟨56, _⟩ => ⟨S512x512, .i32⟩
  | .hbm, ⟨57, _⟩ => ⟨S512x512, .i1⟩
  | .hbm, ⟨58, _⟩ => ⟨S512x512, .bf16⟩
  | .hbm, ⟨59, _⟩ => ⟨S64x27648, .bf16⟩
  | .local _ .vmem, ⟨0, _⟩ => ⟨S64x5120, .bf16⟩
  | .local _ .vmem, ⟨1, _⟩ => ⟨S1024x2560, .i8⟩
  | .local _ .vmem, ⟨2, _⟩ => ⟨S1024x2560, .i8⟩
  | .local _ .vmem, ⟨3, _⟩ => ⟨S1024x20, .i16⟩
  | .local _ .vmem, ⟨4, _⟩ => ⟨S1024x20, .i16⟩
  | .local _ .vmem, ⟨5, _⟩ => ⟨S1024x20, .i16⟩
  | .local _ .vmem, ⟨6, _⟩ => ⟨S1024x20, .i16⟩
  | .local _ .vmem, ⟨7, _⟩ => ⟨S1024x160, .i8⟩
  | .local _ .vmem, ⟨8, _⟩ => ⟨S1024x160, .i8⟩
  | .local _ .vmem, ⟨9, _⟩ => ⟨S1024x160, .i8⟩
  | .local _ .vmem, ⟨10, _⟩ => ⟨S1024x160, .i8⟩
  | .local _ .vmem, ⟨11, _⟩ => ⟨S512x512, .bf16⟩
  | .local _ .vmem, ⟨12, _⟩ => ⟨S64x1024, .bf16⟩
  | .local _ .vmem, ⟨13, _⟩ => ⟨S64x1024, .bf16⟩
  | .local _ .vmem, ⟨14, _⟩ => ⟨S160x128, .i32⟩
  | .local _ .vmem, ⟨15, _⟩ => ⟨S160x128, .i32⟩
  | .local _ .vmem, ⟨16, _⟩ => ⟨S160x128, .f32⟩
  | .local _ .vmem, ⟨17, _⟩ => ⟨S160x128, .f32⟩
  | .local _ .vmem, ⟨18, _⟩ => ⟨S128x128, .i32⟩
  | .local _ .vmem, ⟨19, _⟩ => ⟨S128x128, .i32⟩
  | .local _ .vmem, ⟨20, _⟩ => ⟨S128x128, .i32⟩
  | .local _ .vmem, ⟨21, _⟩ => ⟨S128x128, .i32⟩
  | .local _ .vmem, ⟨22, _⟩ => ⟨S544x128, .i32⟩
  | .local _ .vmem, ⟨23, _⟩ => ⟨S544x128, .i32⟩
  | .local _ .vmem, ⟨24, _⟩ => ⟨S544x128, .i32⟩
  | .local _ .vmem, ⟨25, _⟩ => ⟨S544x128, .i32⟩
  | _, _ => ⟨S64x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v5 : Ref sig .tc := ⟨.hbm, 32, rfl⟩
abbrev main_c_0 : Ref sig .tc := ⟨.hbm, 33, rfl⟩
abbrev main_v6 : Ref sig .tc := ⟨.hbm, 34, rfl⟩
abbrev main_v7 : Ref sig .tc := ⟨.hbm, 35, rfl⟩
abbrev main_c_1 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_c : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_0 : Ref sig .tc := ⟨.hbm, 50, rfl⟩
abbrev main_call1_v12 : Ref sig .tc := ⟨.hbm, 51, rfl⟩
abbrev main_call1_v13 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_scratch10 : Ref sig .tc := ⟨.vmem, 24, rfl⟩
abbrev cc0_scratch11 : Ref sig .tc := ⟨.vmem, 25, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [BitOps F]

abbrev grid0 : Pipeline.Grid := ⟨1, ![27], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2560 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x20 .i16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x20 .i16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x160 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x160 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
abbrev S64x1x5120 : Shape := ⟨3, ![64, 1, 5120]⟩
abbrev S27648x2560 : Shape := ⟨2, ![27648, 2560]⟩
abbrev S27648x20 : Shape := ⟨2, ![27648, 20]⟩
abbrev S27648x160 : Shape := ⟨2, ![27648, 160]⟩
abbrev S64x5120 : Shape := ⟨2, ![64, 5120]⟩
abbrev S512 : Shape := ⟨1, ![512]⟩
abbrev S512x1 : Shape := ⟨2, ![512, 1]⟩
abbrev S1x512 : Shape := ⟨2, ![1, 512]⟩
abbrev S_ : Shape := ⟨0, ![]⟩
abbrev S512x512 : Shape := ⟨2, ![512, 512]⟩
abbrev S64x27648 : Shape := ⟨2, ![64, 27648]⟩
abbrev S1024x2560 : Shape := ⟨2, ![1024, 2560]⟩
abbrev S1024x20 : Shape := ⟨2, ![1024, 20]⟩
abbrev S1024x160 : Shape := ⟨2, ![1024, 160]⟩
abbrev S64x1024 : Shape := ⟨2, ![64, 1024]⟩
abbrev S160x128 : Shape := ⟨2, ![160, 128]⟩
abbrev S128x128 : Shape := ⟨2, ![128, 128]⟩
abbrev S544x128 : Shape := ⟨2, ![544, 128]⟩
abbrev S544x2x128 : Shape := ⟨3, ![544, 2, 128]⟩
abbrev S544x1x128 : Shape := ⟨3, ![544, 1, 128]⟩
abbrev S512x128 : Shape := ⟨2, ![512, 128]⟩
abbrev S512x32 : Shape := ⟨2, ![512, 32]⟩
abbrev S128x32 : Shape := ⟨2, ![128, 32]⟩
abbrev S32x128 : Shape := ⟨2, ![32, 128]⟩
abbrev S512x20 : Shape := ⟨2, ![512, 20]⟩
abbrev S128x20 : Shape := ⟨2, ![128, 20]⟩
abbrev S512x2x20 : Shape := ⟨3, ![512, 2, 20]⟩
abbrev S128x2x20 : Shape := ⟨3, ![128, 2, 20]⟩
abbrev S128x1x20 : Shape := ⟨3, ![128, 1, 20]⟩
abbrev S20x128 : Shape := ⟨2, ![20, 128]⟩
abbrev S8x128 : Shape := ⟨2, ![8, 128]⟩
abbrev S64x128 : Shape := ⟨2, ![64, 128]⟩
abbrev S2x128 : Shape := ⟨2, ![2, 128]⟩
abbrev S256x128 : Shape := ⟨2, ![256, 128]⟩
abbrev S8x2x128 : Shape := ⟨3, ![8, 2, 128]⟩
abbrev S8x1x128 : Shape := ⟨3, ![8, 1, 128]⟩
abbrev S64x256 : Shape := ⟨2, ![64, 256]⟩
abbrev S64x2x128 : Shape := ⟨3, ![64, 2, 128]⟩
abbrev S64x1x128 : Shape := ⟨3, ![64, 1, 128]⟩
abbrev S128x256 : Shape := ⟨2, ![128, 256]⟩
abbrev S256x256 : Shape := ⟨2, ![256, 256]⟩
abbrev S64x512 : Shape := ⟨2, ![64, 512]⟩

abbrev nBuf : Space → Nat
  | .hbm => 60
  | .vmem => 26
  | .smem => 0
  | _ => 0

abbrev bufTy : (tb : Table) → Fin (tcTables nBuf tb) → BufTy
  | .hbm, ⟨0, _⟩ => ⟨S64x1x5120, .bf16⟩
  | .hbm, ⟨1, _⟩ => ⟨S27648x2560, .i8⟩
  | .hbm, ⟨2, _⟩ => ⟨S27648x20, .i16⟩
  | .hbm, ⟨3, _⟩ => ⟨S27648x20, .i16⟩
  | .hbm, ⟨4, _⟩ => ⟨S27648x160, .i8⟩
  | .hbm, ⟨5, _⟩ => ⟨S27648x160, .i8⟩
  | .hbm, ⟨6, _⟩ => ⟨S64x5120, .bf16⟩
  | .hbm, ⟨7, _⟩ => ⟨S512, .i32⟩
  | .hbm, ⟨8, _⟩ => ⟨S512x1, .i32⟩
  | .hbm, ⟨9, _⟩ => ⟨S512, .i32⟩
  | .hbm, ⟨10, _⟩ => ⟨S1x512, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S512x1, .i32⟩
  | .hbm, ⟨18, _⟩ => ⟨S512x1, .i32⟩
  | .hbm, ⟨19, _⟩ => ⟨S_, .i32⟩
  | .hbm, ⟨20, _⟩ => ⟨S512x1, .i32⟩
  | .hbm, ⟨21, _⟩ => ⟨S512x1, .i1⟩
  | .hbm, ⟨22, _⟩ => ⟨S_, .i32⟩
  | .hbm, ⟨23, _⟩ => ⟨S512x1, .i32⟩
  | .hbm, ⟨24, _⟩ => ⟨S512x1, .i1⟩
  | .hbm, ⟨25, _⟩ => ⟨S_, .i32⟩
  | .hbm, ⟨26, _⟩ => ⟨S_, .i1⟩
  | .hbm, ⟨27, _⟩ => ⟨S512x1, .i1⟩
  | .hbm, ⟨28, _⟩ => ⟨S512x1, .i1⟩
  | .hbm, ⟨29, _⟩ => ⟨S512x1, .i1⟩
  | .hbm, ⟨30, _⟩ => ⟨S512x1, .i32⟩
  | .hbm, ⟨31, _⟩ => ⟨S512x1, .i32⟩
  | .hbm, ⟨32, _⟩ => ⟨S512x1, .i32⟩
  | .hbm, ⟨33, _⟩ => ⟨S_, .i32⟩
  | .hbm, ⟨34, _⟩ => ⟨S512x1, .i32⟩
  | .hbm, ⟨35, _⟩ => ⟨S512x1, .i32⟩
  | .hbm, ⟨36, _⟩ => ⟨S_, .i32⟩
  | .hbm, ⟨37, _⟩ => ⟨S_, .i32⟩
  | .hbm, ⟨38, _⟩ => ⟨S512x1, .i32⟩
  | .hbm, ⟨39, _⟩ => ⟨S512x1, .i32⟩
  | .hbm, ⟨40, _⟩ => ⟨S512x1, .i32⟩
  | .hbm, ⟨41, _⟩ => ⟨S_, .i32⟩
  | .hbm, ⟨42, _⟩ => ⟨S512x1, .i32⟩
  | .hbm, ⟨43, _⟩ => ⟨S512x1, .i1⟩
  | .hbm, ⟨44, _⟩ => ⟨S512x1, .i32⟩
  | .hbm, ⟨45, _⟩ => ⟨S512x1, .i32⟩
  | .hbm, ⟨46, _⟩ => ⟨S_, .i32⟩
  | .hbm, ⟨47, _⟩ => ⟨S512x1, .i32⟩
  | .hbm, ⟨48, _⟩ => ⟨S512x1, .i1⟩
  | .hbm, ⟨49, _⟩ => ⟨S512x1, .i1⟩
  | .hbm, ⟨50, _⟩ => ⟨S_, .i32⟩
  | .hbm, ⟨51, _⟩ => ⟨S512x1, .i32⟩
  | .hbm, ⟨52, _⟩ => ⟨S512x1, .i32⟩
  | .hbm, ⟨53, _⟩ => ⟨S512x1, .i32⟩
  | .hbm, ⟨54, _⟩ => ⟨S512x1, .i32⟩
  | .hbm, ⟨55, _⟩ => ⟨S512x512, .i32⟩
  | .hbm, ⟨56, _⟩ => ⟨S512x512, .i32⟩
  | .hbm, ⟨57, _⟩ => ⟨S512x512, .i1⟩
  | .hbm, ⟨58, _⟩ => ⟨S512x512, .bf16⟩
  | .hbm, ⟨59, _⟩ => ⟨S64x27648, .bf16⟩
  | .local _ .vmem, ⟨0, _⟩ => ⟨S64x5120, .bf16⟩
  | .local _ .vmem, ⟨1, _⟩ => ⟨S1024x2560, .i8⟩
  | .local _ .vmem, ⟨2, _⟩ => ⟨S1024x2560, .i8⟩
  | .local _ .vmem, ⟨3, _⟩ => ⟨S1024x20, .i16⟩
  | .local _ .vmem, ⟨4, _⟩ => ⟨S1024x20, .i16⟩
  | .local _ .vmem, ⟨5, _⟩ => ⟨S1024x20, .i16⟩
  | .local _ .vmem, ⟨6, _⟩ => ⟨S1024x20, .i16⟩
  | .local _ .vmem, ⟨7, _⟩ => ⟨S1024x160, .i8⟩
  | .local _ .vmem, ⟨8, _⟩ => ⟨S1024x160, .i8⟩
  | .local _ .vmem, ⟨9, _⟩ => ⟨S1024x160, .i8⟩
  | .local _ .vmem, ⟨10, _⟩ => ⟨S1024x160, .i8⟩
  | .local _ .vmem, ⟨11, _⟩ => ⟨S512x512, .bf16⟩
  | .local _ .vmem, ⟨12, _⟩ => ⟨S64x1024, .bf16⟩
  | .local _ .vmem, ⟨13, _⟩ => ⟨S64x1024, .bf16⟩
  | .local _ .vmem, ⟨14, _⟩ => ⟨S160x128, .i32⟩
  | .local _ .vmem, ⟨15, _⟩ => ⟨S160x128, .i32⟩
  | .local _ .vmem, ⟨16, _⟩ => ⟨S160x128, .f32⟩
  | .local _ .vmem, ⟨17, _⟩ => ⟨S160x128, .f32⟩
  | .local _ .vmem, ⟨18, _⟩ => ⟨S128x128, .i32⟩
  | .local _ .vmem, ⟨19, _⟩ => ⟨S128x128, .i32⟩
  | .local _ .vmem, ⟨20, _⟩ => ⟨S128x128, .i32⟩
  | .local _ .vmem, ⟨21, _⟩ => ⟨S128x128, .i32⟩
  | .local _ .vmem, ⟨22, _⟩ => ⟨S544x2x128, .bf16⟩
  | .local _ .vmem, ⟨23, _⟩ => ⟨S544x2x128, .bf16⟩
  | .local _ .vmem, ⟨24, _⟩ => ⟨S544x2x128, .bf16⟩
  | .local _ .vmem, ⟨25, _⟩ => ⟨S544x2x128, .bf16⟩
  | _, _ => ⟨S64x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v5 : Ref sig .tc := ⟨.hbm, 32, rfl⟩
abbrev main_c_0 : Ref sig .tc := ⟨.hbm, 33, rfl⟩
abbrev main_v6 : Ref sig .tc := ⟨.hbm, 34, rfl⟩
abbrev main_v7 : Ref sig .tc := ⟨.hbm, 35, rfl⟩
abbrev main_c_1 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_c : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_0 : Ref sig .tc := ⟨.hbm, 50, rfl⟩
abbrev main_call1_v12 : Ref sig .tc := ⟨.hbm, 51, rfl⟩
abbrev main_call1_v13 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_scratch10 : Ref sig .tc := ⟨.vmem, 24, rfl⟩
abbrev cc0_scratch11 : Ref sig .tc := ⟨.vmem, 25, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![27], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2560 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x20 .i16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x20 .i16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x160 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x160 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S64x1x5120 : Shape := ⟨3, ![64, 1, 5120]⟩
abbrev S27648x2560 : Shape := ⟨2, ![27648, 2560]⟩
abbrev S27648x20 : Shape := ⟨2, ![27648, 20]⟩
abbrev S27648x160 : Shape := ⟨2, ![27648, 160]⟩
abbrev S27648x80x32 : Shape := ⟨3, ![27648, 80, 32]⟩
abbrev S_ : Shape := ⟨0, ![]⟩
abbrev S27648x20x4 : Shape := ⟨3, ![27648, 20, 4]⟩
abbrev S27648x80 : Shape := ⟨2, ![27648, 80]⟩
abbrev S27648x80x1 : Shape := ⟨3, ![27648, 80, 1]⟩
abbrev S64x1x80x2x32 : Shape := ⟨5, ![64, 1, 80, 2, 32]⟩
abbrev S64x1x80x1x32 : Shape := ⟨5, ![64, 1, 80, 1, 32]⟩
abbrev S64x1x80x32 : Shape := ⟨4, ![64, 1, 80, 32]⟩
abbrev S64x1x27648 : Shape := ⟨3, ![64, 1, 27648]⟩
abbrev S64x27648 : Shape := ⟨2, ![64, 27648]⟩

abbrev nBuf : Space → Nat
  | .hbm => 62
  | .vmem => 4
  | .smem => 0
  | _ => 0

abbrev bufTy : (tb : Table) → Fin (tcTables nBuf tb) → BufTy
  | .hbm, ⟨0, _⟩ => ⟨S64x1x5120, .bf16⟩
  | .hbm, ⟨1, _⟩ => ⟨S27648x2560, .i8⟩
  | .hbm, ⟨2, _⟩ => ⟨S27648x20, .i16⟩
  | .hbm, ⟨3, _⟩ => ⟨S27648x20, .i16⟩
  | .hbm, ⟨4, _⟩ => ⟨S27648x160, .i8⟩
  | .hbm, ⟨5, _⟩ => ⟨S27648x160, .i8⟩
  | .hbm, ⟨6, _⟩ => ⟨S27648x2560, .i32⟩
  | .hbm, ⟨7, _⟩ => ⟨S27648x80x32, .i32⟩
  | .hbm, ⟨8, _⟩ => ⟨S_, .i32⟩
  | .hbm, ⟨9, _⟩ => ⟨S27648x80x32, .i32⟩
  | .hbm, ⟨10, _⟩ => ⟨S27648x80x32, .i32⟩
  | .hbm, ⟨11, _⟩ => ⟨S_, .i32⟩
  | .hbm, ⟨12, _⟩ => ⟨S27648x80x32, .i32⟩
  | .hbm, ⟨13, _⟩ => ⟨S27648x80x32, .i32⟩
  | .hbm, ⟨14, _⟩ => ⟨S27648x20, .f32⟩
  | .hbm, ⟨15, _⟩ => ⟨S27648x20, .f32⟩
  | .hbm, ⟨16, _⟩ => ⟨S27648x20x4, .f32⟩
  | .hbm, ⟨17, _⟩ => ⟨S27648x80, .f32⟩
  | .hbm, ⟨18, _⟩ => ⟨S27648x20x4, .f32⟩
  | .hbm, ⟨19, _⟩ => ⟨S27648x80, .f32⟩
  | .hbm, ⟨20, _⟩ => ⟨S27648x80, .i8⟩
  | .hbm, ⟨21, _⟩ => ⟨S27648x80, .i8⟩
  | .hbm, ⟨22, _⟩ => ⟨S27648x80, .i32⟩
  | .hbm, ⟨23, _⟩ => ⟨S27648x80, .f32⟩
  | .hbm, ⟨24, _⟩ => ⟨S27648x80, .f32⟩
  | .hbm, ⟨25, _⟩ => ⟨S27648x80, .i32⟩
  | .hbm, ⟨26, _⟩ => ⟨S27648x80, .f32⟩
  | .hbm, ⟨27, _⟩ => ⟨S27648x80, .f32⟩
  | .hbm, ⟨28, _⟩ => ⟨S27648x80x32, .f32⟩
  | .hbm, ⟨29, _⟩ => ⟨S27648x80x1, .f32⟩
  | .hbm, ⟨30, _⟩ => ⟨S27648x80x32, .f32⟩
  | .hbm, ⟨31, _⟩ => ⟨S27648x80x32, .f32⟩
  | .hbm, ⟨32, _⟩ => ⟨S27648x80x1, .f32⟩
  | .hbm, ⟨33, _⟩ => ⟨S27648x80x32, .f32⟩
  | .hbm, ⟨34, _⟩ => ⟨S27648x80x32, .f32⟩
  | .hbm, ⟨35, _⟩ => ⟨S27648x80x32, .bf16⟩
  | .hbm, ⟨36, _⟩ => ⟨S27648x80, .i8⟩
  | .hbm, ⟨37, _⟩ => ⟨S27648x80, .i8⟩
  | .hbm, ⟨38, _⟩ => ⟨S27648x80, .i32⟩
  | .hbm, ⟨39, _⟩ => ⟨S27648x80, .f32⟩
  | .hbm, ⟨40, _⟩ => ⟨S27648x80, .f32⟩
  | .hbm, ⟨41, _⟩ => ⟨S27648x80, .i32⟩
  | .hbm, ⟨42, _⟩ => ⟨S27648x80, .f32⟩
  | .hbm, ⟨43, _⟩ => ⟨S27648x80, .f32⟩
  | .hbm, ⟨44, _⟩ => ⟨S27648x80x32, .f32⟩
  | .hbm, ⟨45, _⟩ => ⟨S27648x80x1, .f32⟩
  | .hbm, ⟨46, _⟩ => ⟨S27648x80x32, .f32⟩
  | .hbm, ⟨47, _⟩ => ⟨S27648x80x32, .f32⟩
  | .hbm, ⟨48, _⟩ => ⟨S27648x80x1, .f32⟩
  | .hbm, ⟨49, _⟩ => ⟨S27648x80x32, .f32⟩
  | .hbm, ⟨50, _⟩ => ⟨S27648x80x32, .f32⟩
  | .hbm, ⟨51, _⟩ => ⟨S27648x80x32, .bf16⟩
  | .hbm, ⟨52, _⟩ => ⟨S64x1x80x2x32, .bf16⟩
  | .hbm, ⟨53, _⟩ => ⟨S64x1x80x1x32, .bf16⟩
  | .hbm, ⟨54, _⟩ => ⟨S64x1x80x32, .bf16⟩
  | .hbm, ⟨55, _⟩ => ⟨S64x1x27648, .f32⟩
  | .hbm, ⟨56, _⟩ => ⟨S64x1x80x1x32, .bf16⟩
  | .hbm, ⟨57, _⟩ => ⟨S64x1x80x32, .bf16⟩
  | .hbm, ⟨58, _⟩ => ⟨S64x1x27648, .f32⟩
  | .hbm, ⟨59, _⟩ => ⟨S64x1x27648, .f32⟩
  | .hbm, ⟨60, _⟩ => ⟨S64x1x27648, .bf16⟩
  | .hbm, ⟨61, _⟩ => ⟨S64x27648, .bf16⟩
  | .local _ .vmem, ⟨0, _⟩ => ⟨S27648x20, .i16⟩
  | .local _ .vmem, ⟨1, _⟩ => ⟨S27648x20, .i16⟩
  | .local _ .vmem, ⟨2, _⟩ => ⟨S27648x20, .f32⟩
  | .local _ .vmem, ⟨3, _⟩ => ⟨S27648x20, .f32⟩
  | _, _ => ⟨S64x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S27648x20 .i16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S27648x20 .i16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S27648x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S27648x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Ring.lean ====
module

public import Idealize.ShloMosaic.PureOps
public import Idealize.ShloMosaic.Lib.Pointwise
public import Idealize.ShloMosaic.Lib.Pipeline.Value
public import Idealize.ShloMosaic.Lib.Pipeline.CanonAppend
public import Idealize.ShloMosaic.Lib.BitcastFour
public import Idealize.ShloMosaic.Lib.BitcastPair

@[expose] public section

noncomputable section

namespace Cert.Ring

open Idealize.ShloMosaic

abbrev S8x128 : Shape := ⟨2, ![8, 128]⟩
abbrev S8x1x128 : Shape := ⟨3, ![8, 1, 128]⟩
abbrev S8x2x128 : Shape := ⟨3, ![8, 2, 128]⟩
abbrev S256x128 : Shape := ⟨2, ![256, 128]⟩
abbrev S544x2x128 : Shape := ⟨3, ![544, 2, 128]⟩

/-- Eight rows of scaled codes minus offsets, starting at row `k`. -/
def rowsAt (s o : FVec Ideal S8x128 .f32) (f : FVec Ideal S256x128 .f32) (k : Nat) (h : S256x128.Slices ![k, 0] S8x128) : FVec Ideal S8x128 .bf16 :=
  truncf .bf16 (subf (mulf (extractStridedSlice S8x128 ![k, 0] f h) s) o)

theorem bits : S8x2x128.Bitcasts 16 S8x1x128 32 := by decide
theorem casts : S8x128.ShapeCasts S8x1x128 := by decide
theorem slices (u : Fin 16) (i : Fin 2) : S256x128.Slices ![16 * u.val + 8 * i.val, 0] S8x128 := by
  revert u i; decide

/-- The pair of rows stored for step `u`: rows `16u` and `16u + 8` of the codes, interleaved. -/
def pairRows (s o : FVec Ideal S8x128 .f32) (f : FVec Ideal S256x128 .f32) (u : Nat) (h : u < 16) : Vec Ideal S8x2x128 .bf16 :=
  interleaveRows S8x2x128 (shapeCast S8x1x128 (rowsAt s o f (16 * u) (slices ⟨u, h⟩ 0)) casts)
    (shapeCast S8x1x128 (rowsAt s o f (16 * u + 8) (slices ⟨u, h⟩ 1)) casts) bits

/-- One entry of an interleaved pair of rows. -/
theorem pairRows_apply (s o : FVec Ideal S8x128 .f32) (f : FVec Ideal S256x128 .f32) (u : Nat) (h : u < 16) (a : Fin 8) (i : Fin 2) (l : Fin 128) :
    (pairRows s o f u h (ix3 a i l) : EReal)
      = f (ix2 ⟨16 * u + 8 * i.val + a.val, by omega⟩ l) * s (ix2 a l) - o (ix2 a l) := by
  unfold pairRows rowsAt
  have : i = 0 ∨ i = 1 := by omega
  rcases this with rfl | rfl
  · pointwise [interleaveRows]
  · pointwise [interleaveRows]

theorem plane_inb (row : Nat) (h : row < 64) : ∀ a, S8x2x128.size a = 0 ∨ (![row, 0, 0] : Fin 3 → Nat) a + (![68, 1, 1] : Fin 3 → Nat) a * (S8x2x128.size a - 1) < S544x2x128.size a := by
  intro a; right; fin_cases a <;> simp <;> omega

theorem plane_pos : ∀ a, 0 < (![68, 1, 1] : Fin 3 → Nat) a := by decide

/-- Rows `row`, `row + 68`, …, `row + 7·68` of the ring. -/
def planeRect (row : Nat) (h : row < 64) : Rect S544x2x128 :=
  ⟨(⟨![row, 0, 0], S8x2x128.size, ![68, 1, 1], plane_inb row h⟩ : LoadRect S544x2x128), plane_pos⟩

abbrev PieceR := View.Piece (Elt Ideal) S544x2x128 .bf16

/-- The write of one pair of rows for all eight planes. -/
def piece (row : Nat) (h : row < 64) (s o : FVec Ideal S8x128 .f32) (f : FVec Ideal S256x128 .f32) (u : Nat) (hu : u < 16) : PieceR :=
  ⟨planeRect row h, pairRows s o f u hu⟩

section
variable (s0 s1 s2 s3 o0 o1 o2 o3 : FVec Ideal S8x128 .f32) (f0 f1 f2 f3 : FVec Ideal S256x128 .f32)

/-- The sixty-four writes of a chunk, the last one first. -/
def pieces : List PieceR :=
    [piece 63 (by omega) s3 o3 f3 15 (by omega),
     piece 62 (by omega) s3 o3 f3 14 (by omega),
     piece 61 (by omega) s3 o3 f3 13 (by omega),
     piece 60 (by omega) s3 o3 f3 12 (by omega),
     piece 59 (by omega) s3 o3 f3 11 (by omega),
     piece 58 (by omega) s3 o3 f3 10 (by omega),
     piece 57 (by omega) s3 o3 f3 9 (by omega),
     piece 56 (by omega) s3 o3 f3 8 (by omega),
     piece 55 (by omega) s3 o3 f3 7 (by omega),
     piece 54 (by omega) s3 o3 f3 6 (by omega),
     piece 53 (by omega) s3 o3 f3 5 (by omega),
     piece 52 (by omega) s3 o3 f3 4 (by omega),
     piece 51 (by omega) s3 o3 f3 3 (by omega),
     piece 50 (by omega) s3 o3 f3 2 (by omega),
     piece 49 (by omega) s3 o3 f3 1 (by omega),
     piece 48 (by omega) s3 o3 f3 0 (by omega),
     piece 47 (by omega) s2 o2 f2 15 (by omega),
     piece 46 (by omega) s2 o2 f2 14 (by omega),
     piece 45 (by omega) s2 o2 f2 13 (by omega),
     piece 44 (by omega) s2 o2 f2 12 (by omega),
     piece 43 (by omega) s2 o2 f2 11 (by omega),
     piece 42 (by omega) s2 o2 f2 10 (by omega),
     piece 41 (by omega) s2 o2 f2 9 (by omega),
     piece 40 (by omega) s2 o2 f2 8 (by omega),
     piece 39 (by omega) s2 o2 f2 7 (by omega),
     piece 38 (by omega) s2 o2 f2 6 (by omega),
     piece 37 (by omega) s2 o2 f2 5 (by omega),
     piece 36 (by omega) s2 o2 f2 4 (by omega),
     piece 35 (by omega) s2 o2 f2 3 (by omega),
     piece 34 (by omega) s2 o2 f2 2 (by omega),
     piece 33 (by omega) s2 o2 f2 1 (by omega),
     piece 32 (by omega) s2 o2 f2 0 (by omega),
     piece 31 (by omega) s1 o1 f1 15 (by omega),
     piece 30 (by omega) s1 o1 f1 14 (by omega),
     piece 29 (by omega) s1 o1 f1 13 (by omega),
     piece 28 (by omega) s1 o1 f1 12 (by omega),
     piece 27 (by omega) s1 o1 f1 11 (by omega),
     piece 26 (by omega) s1 o1 f1 10 (by omega),
     piece 25 (by omega) s1 o1 f1 9 (by omega),
     piece 24 (by omega) s1 o1 f1 8 (by omega),
     piece 23 (by omega) s1 o1 f1 7 (by omega),
     piece 22 (by omega) s1 o1 f1 6 (by omega),
     piece 21 (by omega) s1 o1 f1 5 (by omega),
     piece 20 (by omega) s1 o1 f1 4 (by omega),
     piece 19 (by omega) s1 o1 f1 3 (by omega),
     piece 18 (by omega) s1 o1 f1 2 (by omega),
     piece 17 (by omega) s1 o1 f1 1 (by omega),
     piece 16 (by omega) s1 o1 f1 0 (by omega),
     piece 15 (by omega) s0 o0 f0 15 (by omega),
     piece 14 (by omega) s0 o0 f0 14 (by omega),
     piece 13 (by omega) s0 o0 f0 13 (by omega),
     piece 12 (by omega) s0 o0 f0 12 (by omega),
     piece 11 (by omega) s0 o0 f0 11 (by omega),
     piece 10 (by omega) s0 o0 f0 10 (by omega),
     piece 9 (by omega) s0 o0 f0 9 (by omega),
     piece 8 (by omega) s0 o0 f0 8 (by omega),
     piece 7 (by omega) s0 o0 f0 7 (by omega),
     piece 6 (by omega) s0 o0 f0 6 (by omega),
     piece 5 (by omega) s0 o0 f0 5 (by omega),
     piece 4 (by omega) s0 o0 f0 4 (by omega),
     piece 3 (by omega) s0 o0 f0 3 (by omega),
     piece 2 (by omega) s0 o0 f0 2 (by omega),
     piece 1 (by omega) s0 o0 f0 1 (by omega),
     piece 0 (by omega) s0 o0 f0 0 (by omega)]

/-- One of four values, by number. -/
def pick {α : Type} (a0 a1 a2 a3 : α) (q : Nat) : α :=
  match q with
  | 0 => a0
  | 1 => a1
  | 2 => a2
  | _ => a3

/-- What the ring holds after the sixty-four writes, at plane `a`, row `row` of the plane, parity `i` and lane `l`. -/
def planeVal (a : Nat) (ha : a < 8) (row i : Nat) (hi : i < 2) (l : Fin 128) : EReal :=
  pick f0 f1 f2 f3 (row / 16) (ix2 ⟨16 * (row % 16) + 8 * i + a, by omega⟩ l)
    * pick s0 s1 s2 s3 (row / 16) (ix2 ⟨a, ha⟩ l) - pick o0 o1 o2 o3 (row / 16) (ix2 ⟨a, ha⟩ l)

/-- The same as a function on the whole ring. -/
def ringVal : S544x2x128.Idx → Elt Ideal .bf16 := fun y =>
  planeVal s0 s1 s2 s3 o0 o1 o2 o3 f0 f1 f2 f3 ((y 0).val / 68)
    (by have : (y 0).val < 544 := (y 0).isLt; omega) ((y 0).val % 68) (y 1).val (y 1).isLt ⟨(y 2).val, (y 2).isLt⟩

theorem ringVal_eq (y : S544x2x128.Idx) (a row i : Nat) (ha : a < 8) (hr : row < 64) (hi : i < 2) (l : Fin 128)
    (h0 : (y 0).val = row + 68 * a) (h1 : (y 1).val = i) (h2 : (y 2).val = l.val) :
    ringVal s0 s1 s2 s3 o0 o1 o2 o3 f0 f1 f2 f3 y = planeVal s0 s1 s2 s3 o0 o1 o2 o3 f0 f1 f2 f3 a ha row i hi l := by
  unfold ringVal
  have d1 : (y 0).val / 68 = a := by omega
  have d2 : (y 0).val % 68 = row := by omega
  simp only [d1, d2, h1, h2]

theorem piece_agrees (row : Nat) (h : row < 64) (q u : Nat) (hu : u < 16) (hq : row = 16 * q + u)
    (s o : FVec Ideal S8x128 .f32) (f : FVec Ideal S256x128 .f32)
    (hs : pick s0 s1 s2 s3 q = s) (ho : pick o0 o1 o2 o3 q = o) (hf : pick f0 f1 f2 f3 q = f)
    (x : (piece row h s o f u hu).1.shape.Idx) :
    (piece row h s o f u hu).2 x = ringVal s0 s1 s2 s3 o0 o1 o2 o3 f0 f1 f2 f3 ((piece row h s o f u hu).1.emb x) := by
  have hx : ∃ (a : Fin 8) (i : Fin 2) (l : Fin 128), x = ix3 a i l :=
    ⟨x 0, x 1, x 2, by funext a; fin_cases a <;> rfl⟩
  obtain ⟨a, i, l, rfl⟩ := hx
  rw [ringVal_eq s0 s1 s2 s3 o0 o1 o2 o3 f0 f1 f2 f3 _ a.val row i.val a.isLt h i.isLt l rfl
    (show 0 + 1 * i.val = i.val by omega) (show 0 + 1 * l.val = l.val by omega)]
  refine (pairRows_apply s o f u hu a i l).trans ?_
  unfold planeVal
  have d3 : row / 16 = q := by omega
  have d4 : row % 16 = u := by omega
  simp only [d3, d4, hs, ho, hf]

theorem pieces_agree : ∀ p ∈ pieces s0 s1 s2 s3 o0 o1 o2 o3 f0 f1 f2 f3, ∀ x : p.1.shape.Idx,
    p.2 x = ringVal s0 s1 s2 s3 o0 o1 o2 o3 f0 f1 f2 f3 (p.1.emb x) := by
  unfold pieces
  simp only [List.forall_mem_cons]
  refine ⟨piece_agrees _ _ _ _ _ _ _ _ _ _ _ _ 63 _ 3 15 _ rfl _ _ _ rfl rfl rfl,
    piece_agrees _ _ _ _ _ _ _ _ _ _ _ _ 62 _ 3 14 _ rfl _ _ _ rfl rfl rfl,
    piece_agrees _ _ _ _ _ _ _ _ _ _ _ _ 61 _ 3 13 _ rfl _ _ _ rfl rfl rfl,
    piece_agrees _ _ _ _ _ _ _ _ _ _ _ _ 60 _ 3 12 _ rfl _ _ _ rfl rfl rfl,
    piece_agrees _ _ _ _ _ _ _ _ _ _ _ _ 59 _ 3 11 _ rfl _ _ _ rfl rfl rfl,
    piece_agrees _ _ _ _ _ _ _ _ _ _ _ _ 58 _ 3 10 _ rfl _ _ _ rfl rfl rfl,
    piece_agrees _ _ _ _ _ _ _ _ _ _ _ _ 57 _ 3 9 _ rfl _ _ _ rfl rfl rfl,
    piece_agrees _ _ _ _ _ _ _ _ _ _ _ _ 56 _ 3 8 _ rfl _ _ _ rfl rfl rfl,
    piece_agrees _ _ _ _ _ _ _ _ _ _ _ _ 55 _ 3 7 _ rfl _ _ _ rfl rfl rfl,
    piece_agrees _ _ _ _ _ _ _ _ _ _ _ _ 54 _ 3 6 _ rfl _ _ _ rfl rfl rfl,
    piece_agrees _ _ _ _ _ _ _ _ _ _ _ _ 53 _ 3 5 _ rfl _ _ _ rfl rfl rfl,
    piece_agrees _ _ _ _ _ _ _ _ _ _ _ _ 52 _ 3 4 _ rfl _ _ _ rfl rfl rfl,
    piece_agrees _ _ _ _ _ _ _ _ _ _ _ _ 51 _ 3 3 _ rfl _ _ _ rfl rfl rfl,
    piece_agrees _ _ _ _ _ _ _ _ _ _ _ _ 50 _ 3 2 _ rfl _ _ _ rfl rfl rfl,
    piece_agrees _ _ _ _ _ _ _ _ _ _ _ _ 49 _ 3 1 _ rfl _ _ _ rfl rfl rfl,
    piece_agrees _ _ _ _ _ _ _ _ _ _ _ _ 48 _ 3 0 _ rfl _ _ _ rfl rfl rfl,
    piece_agrees _ _ _ _ _ _ _ _ _ _ _ _ 47 _ 2 15 _ rfl _ _ _ rfl rfl rfl,
    piece_agrees _ _ _ _ _ _ _ _ _ _ _ _ 46 _ 2 14 _ rfl _ _ _ rfl rfl rfl,
    piece_agrees _ _ _ _ _ _ _ _ _ _ _ _ 45 _ 2 13 _ rfl _ _ _ rfl rfl rfl,
    piece_agrees _ _ _ _ _ _ _ _ _ _ _ _ 44 _ 2 12 _ rfl _ _ _ rfl rfl rfl,
    piece_agrees _ _ _ _ _ _ _ _ _ _ _ _ 43 _ 2 11 _ rfl _ _ _ rfl rfl rfl,
    piece_agrees _ _ _ _ _ _ _ _ _ _ _ _ 42 _ 2 10 _ rfl _ _ _ rfl rfl rfl,
    piece_agrees _ _ _ _ _ _ _ _ _ _ _ _ 41 _ 2 9 _ rfl _ _ _ rfl rfl rfl,
    piece_agrees _ _ _ _ _ _ _ _ _ _ _ _ 40 _ 2 8 _ rfl _ _ _ rfl rfl rfl,
    piece_agrees _ _ _ _ _ _ _ _ _ _ _ _ 39 _ 2 7 _ rfl _ _ _ rfl rfl rfl,
    piece_agrees _ _ _ _ _ _ _ _ _ _ _ _ 38 _ 2 6 _ rfl _ _ _ rfl rfl rfl,
    piece_agrees _ _ _ _ _ _ _ _ _ _ _ _ 37 _ 2 5 _ rfl _ _ _ rfl rfl rfl,
    piece_agrees _ _ _ _ _ _ _ _ _ _ _ _ 36 _ 2 4 _ rfl _ _ _ rfl rfl rfl,
    piece_agrees _ _ _ _ _ _ _ _ _ _ _ _ 35 _ 2 3 _ rfl _ _ _ rfl rfl rfl,
    piece_agrees _ _ _ _ _ _ _ _ _ _ _ _ 34 _ 2 2 _ rfl _ _ _ rfl rfl rfl,
    piece_agrees _ _ _ _ _ _ _ _ _ _ _ _ 33 _ 2 1 _ rfl _ _ _ rfl rfl rfl,
    piece_agrees _ _ _ _ _ _ _ _ _ _ _ _ 32 _ 2 0 _ rfl _ _ _ rfl rfl rfl,
    piece_agrees _ _ _ _ _ _ _ _ _ _ _ _ 31 _ 1 15 _ rfl _ _ _ rfl rfl rfl,
    piece_agrees _ _ _ _ _ _ _ _ _ _ _ _ 30 _ 1 14 _ rfl _ _ _ rfl rfl rfl,
    piece_agrees _ _ _ _ _ _ _ _ _ _ _ _ 29 _ 1 13 _ rfl _ _ _ rfl rfl rfl,
    piece_agrees _ _ _ _ _ _ _ _ _ _ _ _ 28 _ 1 12 _ rfl _ _ _ rfl rfl rfl,
    piece_agrees _ _ _ _ _ _ _ _ _ _ _ _ 27 _ 1 11 _ rfl _ _ _ rfl rfl rfl,
    piece_agrees _ _ _ _ _ _ _ _ _ _ _ _ 26 _ 1 10 _ rfl _ _ _ rfl rfl rfl,
    piece_agrees _ _ _ _ _ _ _ _ _ _ _ _ 25 _ 1 9 _ rfl _ _ _ rfl rfl rfl,
    piece_agrees _ _ _ _ _ _ _ _ _ _ _ _ 24 _ 1 8 _ rfl _ _ _ rfl rfl rfl,
    piece_agrees _ _ _ _ _ _ _ _ _ _ _ _ 23 _ 1 7 _ rfl _ _ _ rfl rfl rfl,
    piece_agrees _ _ _ _ _ _ _ _ _ _ _ _ 22 _ 1 6 _ rfl _ _ _ rfl rfl rfl,
    piece_agrees _ _ _ _ _ _ _ _ _ _ _ _ 21 _ 1 5 _ rfl _ _ _ rfl rfl rfl,
    piece_agrees _ _ _ _ _ _ _ _ _ _ _ _ 20 _ 1 4 _ rfl _ _ _ rfl rfl rfl,
    piece_agrees _ _ _ _ _ _ _ _ _ _ _ _ 19 _ 1 3 _ rfl _ _ _ rfl rfl rfl,
    piece_agrees _ _ _ _ _ _ _ _ _ _ _ _ 18 _ 1 2 _ rfl _ _ _ rfl rfl rfl,
    piece_agrees _ _ _ _ _ _ _ _ _ _ _ _ 17 _ 1 1 _ rfl _ _ _ rfl rfl rfl,
    piece_agrees _ _ _ _ _ _ _ _ _ _ _ _ 16 _ 1 0 _ rfl _ _ _ rfl rfl rfl,
    piece_agrees _ _ _ _ _ _ _ _ _ _ _ _ 15 _ 0 15 _ rfl _ _ _ rfl rfl rfl,
    piece_agrees _ _ _ _ _ _ _ _ _ _ _ _ 14 _ 0 14 _ rfl _ _ _ rfl rfl rfl,
    piece_agrees _ _ _ _ _ _ _ _ _ _ _ _ 13 _ 0 13 _ rfl _ _ _ rfl rfl rfl,
    piece_agrees _ _ _ _ _ _ _ _ _ _ _ _ 12 _ 0 12 _ rfl _ _ _ rfl rfl rfl,
    piece_agrees _ _ _ _ _ _ _ _ _ _ _ _ 11 _ 0 11 _ rfl _ _ _ rfl rfl rfl,
    piece_agrees _ _ _ _ _ _ _ _ _ _ _ _ 10 _ 0 10 _ rfl _ _ _ rfl rfl rfl,
    piece_agrees _ _ _ _ _ _ _ _ _ _ _ _ 9 _ 0 9 _ rfl _ _ _ rfl rfl rfl,
    piece_agrees _ _ _ _ _ _ _ _ _ _ _ _ 8 _ 0 8 _ rfl _ _ _ rfl rfl rfl,
    piece_agrees _ _ _ _ _ _ _ _ _ _ _ _ 7 _ 0 7 _ rfl _ _ _ rfl rfl rfl,
    piece_agrees _ _ _ _ _ _ _ _ _ _ _ _ 6 _ 0 6 _ rfl _ _ _ rfl rfl rfl,
    piece_agrees _ _ _ _ _ _ _ _ _ _ _ _ 5 _ 0 5 _ rfl _ _ _ rfl rfl rfl,
    piece_agrees _ _ _ _ _ _ _ _ _ _ _ _ 4 _ 0 4 _ rfl _ _ _ rfl rfl rfl,
    piece_agrees _ _ _ _ _ _ _ _ _ _ _ _ 3 _ 0 3 _ rfl _ _ _ rfl rfl rfl,
    piece_agrees _ _ _ _ _ _ _ _ _ _ _ _ 2 _ 0 2 _ rfl _ _ _ rfl rfl rfl,
    piece_agrees _ _ _ _ _ _ _ _ _ _ _ _ 1 _ 0 1 _ rfl _ _ _ rfl rfl rfl,
    piece_agrees _ _ _ _ _ _ _ _ _ _ _ _ 0 _ 0 0 _ rfl _ _ _ rfl rfl rfl, ?_⟩
  intro p hp; cases hp

theorem pieces_mem (row : Nat) (h : row < 64) : ∃ p ∈ pieces s0 s1 s2 s3 o0 o1 o2 o3 f0 f1 f2 f3, p.1 = planeRect row h := by
  have key : ∀ n (hn : n < 64), (pieces s0 s1 s2 s3 o0 o1 o2 o3 f0 f1 f2 f3)[63 - n]?.map (·.1) = some (planeRect n hn) := by
    intro n hn
    interval_cases n <;> rfl
  have := key row h
  simp only [Option.map_eq_some_iff] at this
  obtain ⟨p, hp, e⟩ := this
  exact ⟨p, List.mem_of_getElem? hp, e⟩

/-- A read of the ring after the sixty-four writes: row `68 a + row`, parity `i`, lane `l`. -/
theorem canon_pieces (old : List PieceR) (y : S544x2x128.Idx) (a row : Nat) (ha : a < 8) (hr : row < 64)
    (i : Nat) (hi : i < 2) (l : Fin 128) (h0 : (y 0).val = row + 68 * a) (h1 : (y 1).val = i) (h2 : (y 2).val = l.val) :
    View.canon (pieces s0 s1 s2 s3 o0 o1 o2 o3 f0 f1 f2 f3 ++ old) y
      = planeVal s0 s1 s2 s3 o0 o1 o2 o3 f0 f1 f2 f3 a ha row i hi l := by
  rw [View.canon_append_of_pieces _ old _ (pieces_agree s0 s1 s2 s3 o0 o1 o2 o3 f0 f1 f2 f3) y]
  · exact ringVal_eq _ _ _ _ _ _ _ _ _ _ _ _ y a row i ha hr hi l h0 h1 h2
  · obtain ⟨p, hp, e⟩ := pieces_mem s0 s1 s2 s3 o0 o1 o2 o3 f0 f1 f2 f3 row hr
    refine ⟨p, hp, ?_⟩
    rw [e]
    have : y = (planeRect row hr).emb (ix3 (⟨a, ha⟩ : Fin 8) (y 1 : Fin 2) (y 2 : Fin 128)) := by
      funext b
      fin_cases b
      · exact Fin.ext (show (y 0).val = row + 68 * a by omega)
      · exact Fin.ext (show (y 1).val = 0 + 1 * (y 1).val by omega)
      · exact Fin.ext (show (y 2).val = 0 + 1 * (y 2).val by omega)
    rw [this]
    rw [← Rect.map_emb_univ]
    exact Finset.mem_map_of_mem _ (Finset.mem_univ _)

end

end Cert.Ring
-- ==== Proof.Half.lean ====
module

public import Idealize.ShloMosaic.PureOps
public import Idealize.ShloMosaic.PureOps.Ideal
public import Idealize.ShloMosaic.Lib.ValueIdxCore
public import Mathlib.Data.Nat.Bitwise

@[expose] public section

noncomputable section

namespace Cert.Half

open Idealize.ShloMosaic

/-- A single-precision word with sign bit 0, exponent field `E` and fraction field `T`, as an extended real. -/
theorem ieee32 (E T : Nat) (hE : E < 256) (hT : T < 2 ^ 23) :
    Ideal.ieee 8 23 (BitVec.ofNat 32 (E * 2 ^ 23 + T)) =
      if E = 255 then (if T = 0 then (⊤ : EReal) else ⊥)
      else if E = 0 then (((T : ℝ) * (2 : ℝ) ^ (-149 : Int) : ℝ) : EReal)
      else ((((2 ^ 23 + T : ℕ) : ℝ) * (2 : ℝ) ^ ((E : Int) - 150) : ℝ) : EReal) := by
  have hn : (BitVec.ofNat 32 (E * 2 ^ 23 + T)).toNat = E * 2 ^ 23 + T := by
    rw [BitVec.toNat_ofNat]; omega
  have h1 : ((BitVec.ofNat 32 (E * 2 ^ 23 + T)).extractLsb' (8 + 23) 1 == 1#1) = false := by
    rw [beq_eq_false_iff_ne]; intro h
    have := congrArg BitVec.toNat h
    rw [BitVec.extractLsb'_toNat, hn, Nat.shiftRight_eq_div_pow] at this
    norm_num at this; omega
  have h2 : ((BitVec.ofNat 32 (E * 2 ^ 23 + T)).extractLsb' 23 8).toNat = E := by
    rw [BitVec.extractLsb'_toNat, hn, Nat.shiftRight_eq_div_pow]; omega
  have h3 : ((BitVec.ofNat 32 (E * 2 ^ 23 + T)).extractLsb' 0 23).toNat = T := by
    rw [BitVec.extractLsb'_toNat, hn, Nat.shiftRight_eq_div_pow]; omega
  unfold Ideal.ieee
  simp only [h1, h2, h3]
  norm_num
  congr 2
  ring_nf

/-- A half-precision word with sign bit `S`, exponent field `E` and fraction field `T`, as an extended real. -/
theorem ieee16 (S E T : Nat) (hS : S < 2) (hE : E < 32) (hT : T < 1024) :
    Ideal.ieee 5 10 (BitVec.ofNat 16 (S * 32768 + E * 1024 + T)) =
      if E = 31 then (if T = 0 then (if S = 1 then (⊥ : EReal) else ⊤) else ⊥)
      else if E = 0 then (((if S = 1 then -1 else 1 : ℝ) * (T : ℝ) * (2 : ℝ) ^ (-24 : Int) : ℝ) : EReal)
      else (((if S = 1 then -1 else 1 : ℝ) * ((1024 + T : ℕ) : ℝ) * (2 : ℝ) ^ ((E : Int) - 25) : ℝ) : EReal) := by
  have hn : (BitVec.ofNat 16 (S * 32768 + E * 1024 + T)).toNat = S * 32768 + E * 1024 + T := by
    rw [BitVec.toNat_ofNat]; omega
  have h1 : ((BitVec.ofNat 16 (S * 32768 + E * 1024 + T)).extractLsb' (5 + 10) 1 == 1#1) = decide (S = 1) := by
    rw [Bool.eq_iff_iff, beq_iff_eq, decide_eq_true_iff]
    rw [← BitVec.toNat_inj, BitVec.extractLsb'_toNat, hn, Nat.shiftRight_eq_div_pow]
    norm_num; omega
  have h2 : ((BitVec.ofNat 16 (S * 32768 + E * 1024 + T)).extractLsb' 10 5).toNat = E := by
    rw [BitVec.extractLsb'_toNat, hn, Nat.shiftRight_eq_div_pow]; omega
  have h3 : ((BitVec.ofNat 16 (S * 32768 + E * 1024 + T)).extractLsb' 0 10).toNat = T := by
    rw [BitVec.extractLsb'_toNat, hn, Nat.shiftRight_eq_div_pow]; omega
  unfold Ideal.ieee
  simp only [h1, h2, h3, decide_eq_true_eq]
  norm_num
  congr 2
  ring_nf

/-- The decoding of a half-precision word held in the low half of a 32-bit word, by integer shifts and one 32-bit reinterpretation per
    class (normal, subnormal, infinite or not a number), the sign applied last. -/
def decode (h : BitVec 32) : EReal :=
  let mag := IntOp.shli .vector (IntOp.andi h 32767#32) 13#32
  let v := Scalar.select (IntOp.cmpi .slt mag 8388608#32)
    (Ideal.ieee 8 23 (IntOp.addi mag 947912704#32) - Ideal.ieee 8 23 0x38800000#32)
    (Ideal.ieee 8 23 (IntOp.addi mag 939524096#32))
  let v := Scalar.select (IntOp.cmpi .sge mag 260046848#32) (Ideal.ieee 8 23 (IntOp.ori mag 2139095040#32)) v
  Scalar.select (IntOp.cmpi .ne (IntOp.andi h 32768#32) 0#32) (Ideal.ieee 8 23 0#32 - v) v

theorem decode_eq_nat (S E T : Nat) (hS : S < 2) (hE : E < 32) (hT : T < 1024) (hnn : ¬ (S = 1 ∧ E = 31 ∧ 0 < T)) :
    decode (BitVec.ofNat 32 (S * 32768 + E * 1024 + T)) = Ideal.ieee 5 10 (BitVec.ofNat 16 (S * 32768 + E * 1024 + T)) := by
  have hmag : IntOp.shli .vector (IntOp.andi (BitVec.ofNat 32 (S * 32768 + E * 1024 + T)) 32767#32) 13#32
      = BitVec.ofNat 32 (E * 2 ^ 23 + T * 2 ^ 13) := by
    apply BitVec.eq_of_toNat_eq
    have h13 : (13#32).toNat < 32 := by decide
    simp only [IntOp.shli, IntOp.andi, if_pos h13]
    rw [BitVec.shiftLeft_eq', BitVec.toNat_shiftLeft, BitVec.toNat_and, BitVec.toNat_ofNat, BitVec.toNat_ofNat, BitVec.toNat_ofNat]
    rw [show 32767 % 2 ^ 32 = 2 ^ 15 - 1 by norm_num, Nat.and_two_pow_sub_one_eq_mod, Nat.shiftLeft_eq]
    norm_num; omega
  have hsgn : IntOp.cmpi .ne (IntOp.andi (BitVec.ofNat 32 (S * 32768 + E * 1024 + T)) 32768#32) 0#32 = if S = 1 then 1#1 else 0#1 := by
    have ha : IntOp.andi (BitVec.ofNat 32 (S * 32768 + E * 1024 + T)) 32768#32 = BitVec.ofNat 32 (S * 32768) := by
      apply BitVec.eq_of_toNat_eq
      simp only [IntOp.andi]
      rw [BitVec.toNat_and, BitVec.toNat_ofNat, BitVec.toNat_ofNat, BitVec.toNat_ofNat,
        show 32768 % 2 ^ 32 = 2 ^ 15 by norm_num, Nat.and_two_pow, Nat.testBit_eq_decide_div_mod_eq,
        Nat.mod_eq_of_lt (by omega : S * 32768 + E * 1024 + T < 2 ^ 32), Nat.mod_eq_of_lt (by omega : S * 32768 < 2 ^ 32)]
      interval_cases S
      · rw [show (0 * 32768 + E * 1024 + T) / 2 ^ 15 = 0 by omega]; rfl
      · rw [show (1 * 32768 + E * 1024 + T) / 2 ^ 15 = 1 by omega]; rfl
    rw [ha]
    interval_cases S <;> rfl
  have hadd (k : Nat) (hk : k < 200) : IntOp.addi (BitVec.ofNat 32 (E * 2 ^ 23 + T * 2 ^ 13)) (BitVec.ofNat 32 (k * 2 ^ 23))
      = BitVec.ofNat 32 ((E + k) * 2 ^ 23 + T * 2 ^ 13) := by
    simp only [IntOp.addi]
    rw [← BitVec.ofNat_add]
    exact congrArg (BitVec.ofNat 32) (by omega)
  have hlt : IntOp.cmpi .slt (BitVec.ofNat 32 (E * 2 ^ 23 + T * 2 ^ 13)) 8388608#32 = if E = 0 then 1#1 else 0#1 := by
    simp only [IntOp.cmpi]
    have hs : (BitVec.ofNat 32 (E * 2 ^ 23 + T * 2 ^ 13)).slt 8388608#32 = decide (E = 0) := by
      rw [BitVec.slt_eq_decide, BitVec.toInt_eq_toNat_of_lt, BitVec.toNat_ofNat,
        Nat.mod_eq_of_lt (by omega), show (8388608#32).toInt = 8388608 by decide]
      · rw [decide_eq_decide]; omega
      · rw [BitVec.toNat_ofNat]; omega
    rw [hs]; by_cases h : E = 0 <;> simp [h]
  have hge : IntOp.cmpi .sge (BitVec.ofNat 32 (E * 2 ^ 23 + T * 2 ^ 13)) 260046848#32 = if E = 31 then 1#1 else 0#1 := by
    simp only [IntOp.cmpi]
    have hs : (260046848#32).sle (BitVec.ofNat 32 (E * 2 ^ 23 + T * 2 ^ 13)) = decide (E = 31) := by
      rw [BitVec.sle_eq_decide, BitVec.toInt_eq_toNat_of_lt (x := BitVec.ofNat 32 (E * 2 ^ 23 + T * 2 ^ 13)), BitVec.toNat_ofNat,
        Nat.mod_eq_of_lt (by omega), show (260046848#32).toInt = 260046848 by decide]
      · rw [decide_eq_decide]; omega
      · rw [BitVec.toNat_ofNat]; omega
    rw [hs]; by_cases h : E = 31 <;> simp [h]
  have hzero : Ideal.ieee 8 23 0#32 = 0 := by
    have := ieee32 0 0 (by norm_num) (by norm_num)
    norm_num at this; exact this
  have hsub : Ideal.ieee 8 23 0x38800000#32 = (((2 : ℝ) ^ (-14 : Int) : ℝ) : EReal) := by
    have := ieee32 113 0 (by norm_num) (by norm_num)
    norm_num at this
    rw [this]; norm_num
  unfold decode
  simp only [hmag, hsgn, hlt, hge, hzero, hsub]
  rw [ieee16 S E T hS hE hT, show (947912704#32 : BitVec 32) = BitVec.ofNat 32 (113 * 2 ^ 23) from rfl,
    show (939524096#32 : BitVec 32) = BitVec.ofNat 32 (112 * 2 ^ 23) from rfl, hadd 113 (by norm_num), hadd 112 (by norm_num)]
  rcases Nat.lt_or_ge E 31 with h31 | h31
  · have hE31 : ¬ E = 31 := by omega
    rw [ieee32 (E + 113) (T * 2 ^ 13) (by omega) (by omega), ieee32 (E + 112) (T * 2 ^ 13) (by omega) (by omega)]
    have e1 : ¬ (E + 113 = 255) := by omega
    have e2 : ¬ (E + 113 = 0) := by omega
    have e3 : ¬ (E + 112 = 255) := by omega
    have e4 : ¬ (E + 112 = 0) := by omega
    simp only [if_neg e1, if_neg e2, if_neg e3, if_neg e4, if_neg hE31, ValueIdx.select_zero]
    by_cases hE0 : E = 0
    · subst hE0
      simp only [if_true, ValueIdx.select_one, ← EReal.coe_sub]
      have hv : ((2 ^ 23 + T * 2 ^ 13 : ℕ) : ℝ) * (2 : ℝ) ^ (((0 + 113 : ℕ) : Int) - 150) - (2 : ℝ) ^ (-14 : Int) = (T : ℝ) * (2 : ℝ) ^ (-24 : Int) := by
        push_cast; norm_num; ring
      rw [hv]
      by_cases h1 : S = 1
      · simp only [if_pos h1, ValueIdx.select_one]
        rw [← EReal.coe_zero, ← EReal.coe_sub]; congr 1; ring
      · simp only [if_neg h1, ValueIdx.select_zero]; congr 1; ring
    · simp only [if_neg hE0, ValueIdx.select_zero]
      have hv : ((2 ^ 23 + T * 2 ^ 13 : ℕ) : ℝ) * (2 : ℝ) ^ (((E + 112 : ℕ) : Int) - 150) = ((1024 + T : ℕ) : ℝ) * (2 : ℝ) ^ ((E : Int) - 25) := by
        have : (((E + 112 : ℕ) : Int) - 150) = ((E : Int) - 25) - 13 := by push_cast; ring
        rw [this, zpow_sub₀ (by norm_num : (2 : ℝ) ≠ 0)]; push_cast; norm_num; ring
      rw [hv]
      by_cases h1 : S = 1
      · simp only [if_pos h1, ValueIdx.select_one]
        rw [← EReal.coe_zero, ← EReal.coe_sub]; congr 1; ring
      · simp only [if_neg h1, ValueIdx.select_zero]; congr 1; ring
  · obtain rfl : E = 31 := by omega
    have hor : IntOp.ori (BitVec.ofNat 32 (31 * 2 ^ 23 + T * 2 ^ 13)) 2139095040#32 = BitVec.ofNat 32 (255 * 2 ^ 23 + T * 2 ^ 13) := by
      apply BitVec.eq_of_toNat_eq
      simp only [IntOp.ori]
      have h31 : 31 * 2 ^ 23 + T * 2 ^ 13 = (2 ^ 23 * 31) ||| (T * 2 ^ 13) := by
        rw [← Nat.two_pow_add_eq_or_of_lt (by omega)]; omega
      have h255 : 255 * 2 ^ 23 + T * 2 ^ 13 = (2 ^ 23 * 255) ||| (T * 2 ^ 13) := by
        rw [← Nat.two_pow_add_eq_or_of_lt (by omega)]; omega
      rw [BitVec.toNat_or, BitVec.toNat_ofNat, BitVec.toNat_ofNat, BitVec.toNat_ofNat,
        Nat.mod_eq_of_lt (by omega : 31 * 2 ^ 23 + T * 2 ^ 13 < 2 ^ 32), Nat.mod_eq_of_lt (by omega : 255 * 2 ^ 23 + T * 2 ^ 13 < 2 ^ 32),
        h31, h255, Nat.or_right_comm]
      rfl
    rw [hor, ieee32 255 (T * 2 ^ 13) (by norm_num) (by omega)]
    simp only [if_true, ValueIdx.select_one]
    by_cases hT0 : T = 0
    · subst hT0
      by_cases h1 : S = 1
      · simp only [if_pos h1, ValueIdx.select_one]; simp
      · simp only [if_neg h1, ValueIdx.select_zero]; simp
    · have h1 : ¬ S = 1 := fun h => hnn ⟨h, rfl, by omega⟩
      have hT1 : ¬ T * 2 ^ 13 = 0 := by omega
      simp only [if_neg h1, ValueIdx.select_zero, if_neg hT0, if_neg hT1]

/-- Where the word is not a negative NaN, the decoding is the half-precision value of the word. -/
theorem decode_eq (w : BitVec 16) (h : (0 ≤ w.toInt) ∨ w.toInt ≤ -1024) : decode (w.setWidth 32) = Ideal.ieee 5 10 w := by
  have hw := w.isLt
  have e : w.toNat = w.toNat / 32768 * 32768 + w.toNat / 1024 % 32 * 1024 + w.toNat % 1024 := by omega
  have e16 : w = BitVec.ofNat 16 (w.toNat / 32768 * 32768 + w.toNat / 1024 % 32 * 1024 + w.toNat % 1024) := by
    rw [← e]; simp
  have e32 : w.setWidth 32 = BitVec.ofNat 32 (w.toNat / 32768 * 32768 + w.toNat / 1024 % 32 * 1024 + w.toNat % 1024) := by
    rw [← e]; apply BitVec.eq_of_toNat_eq; simp
  rw [e32, decode_eq_nat _ _ _ (by omega) (by omega) (by omega), ← e16]
  rintro ⟨h1, h2, h3⟩
  have hi : w.toInt = (w.toNat : Int) - 65536 := by
    rw [BitVec.toInt_eq_toNat_cond, if_neg (by omega)]; rfl
  omega

/-- A byte whose value is below 16, read as an 8-bit float with 3 fraction bits, is that value over 512. -/
theorem code_eq (b : BitVec 8) (h : b.toNat < 16) : Ideal.e4m3fn b = (((b.toNat : ℝ) / 512 : ℝ) : EReal) := by
  obtain ⟨n, hn⟩ : ∃ n : Fin 16, b = BitVec.ofNat 8 n.val := ⟨⟨b.toNat, h⟩, by simp⟩
  have h1 : ∀ n : Fin 16, ((BitVec.ofNat 8 n.val).extractLsb' 7 1 == 1#1) = false := by decide
  have h2 : ∀ n : Fin 16, ((BitVec.ofNat 8 n.val).extractLsb' 3 4).toNat = n.val / 8 := by decide
  have h3 : ∀ n : Fin 16, ((BitVec.ofNat 8 n.val).extractLsb' 0 3).toNat = n.val % 8 := by decide
  have h4 : ∀ n : Fin 16, (BitVec.ofNat 8 n.val).toNat = n.val := by decide
  subst hn
  unfold Ideal.e4m3fn
  simp only [h1, h2, h3, h4]
  have hn := n.isLt
  rw [if_neg (by omega)]
  by_cases h8 : n.val / 8 = 0
  · rw [if_pos h8, show n.val % 8 = n.val by omega]; congr 1; norm_num; ring
  · rw [if_neg h8, show n.val / 8 = 1 by omega, show 8 + n.val % 8 = n.val by omega]; congr 1; norm_num; ring

end Cert.Half
-- ==== Proof.Words.lean ====
module

public import proofs.«01_k».proof.Proof.Ring
public import proofs.«01_k».proof.Proof.Half

@[expose] public section

noncomputable section

namespace Cert.Words

open Idealize.ShloMosaic Cert.Ring

abbrev S512x128 : Shape := ⟨2, ![512, 128]⟩
abbrev S512x32 : Shape := ⟨2, ![512, 32]⟩
abbrev S128x32 : Shape := ⟨2, ![128, 32]⟩
abbrev S128x128 : Shape := ⟨2, ![128, 128]⟩
abbrev S32x128 : Shape := ⟨2, ![32, 128]⟩
abbrev S64x128 : Shape := ⟨2, ![64, 128]⟩
abbrev S2x128 : Shape := ⟨2, ![2, 128]⟩
abbrev S160x128 : Shape := ⟨2, ![160, 128]⟩

/-- Byte `b` of a word. -/
abbrev byteOf (w : BitVec 32) (b : Nat) : BitVec 8 := w.extractLsb' (8 * b) 8

/-- Four byte rows read as one word row: byte `b` of row `a` is byte row `4a + b`. -/
theorem byteOf_bitcast {R r n : Nat} (x : (⟨2, ![R, n]⟩ : Shape).Idx → BitVec 8)
    (h : (⟨2, ![R, n]⟩ : Shape).Bitcasts 8 ⟨2, ![r, n]⟩ 32) (a : Fin r) (l : Fin n) (b : Nat) (hb : b < 4) (p : Fin R) (hp : p.val = 4 * a.val + b) :
    byteOf (bitcast ⟨2, ![r, n]⟩ 32 x h (ix2 a l)) b = x (ix2 p l) := by
  apply BitVec.eq_of_getLsbD_eq
  intro i hi
  rw [BitVec.getLsbD_extractLsb']
  have h1 : 8 * b + i < 32 := by omega
  have := bitcast_8_32_getLsbD_ix2 x h a l (8 * b + i) h1 p (by omega)
  have h2 : (8 * b + i) % 8 = i := by omega
  rw [h2] at this
  simp only [hi, decide_true, Bool.true_and]
  exact this

/-- One word row read as four byte rows. -/
theorem bitcast_byteOf {R r n : Nat} (x : (⟨2, ![r, n]⟩ : Shape).Idx → BitVec 32)
    (h : (⟨2, ![r, n]⟩ : Shape).Bitcasts 32 ⟨2, ![R, n]⟩ 8) (p : Fin R) (l : Fin n) (a : Fin r) (b : Nat) (hb : b < 4) (hp : p.val = 4 * a.val + b) :
    bitcast ⟨2, ![R, n]⟩ 8 x h (ix2 p l) = byteOf (x (ix2 a l)) b := by
  apply BitVec.eq_of_getLsbD_eq
  intro i hi
  rw [BitVec.getLsbD_extractLsb', bitcast_getLsbD x h (ix2 p l) i hi (by decide)]
  have hrow : (⟨2, ![R, n]⟩ : Shape).row (ix2 p l) = p.val := rfl
  have e2 : ((⟨2, ![R, n]⟩ : Shape).row (ix2 p l) * 8 + i) % 32 = 8 * b + i := by rw [hrow]; omega
  have e1 : ((⟨2, ![R, n]⟩ : Shape).row (ix2 p l) * 8 + i) / 32 = a.val := by rw [hrow]; omega
  simp only [hi, decide_true, Bool.true_and, e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by simp))

theorem bc1 : S512x128.Bitcasts 8 S128x128 32 := by decide
theorem bc2 : S512x32.Bitcasts 8 S128x32 32 := by decide
theorem tr1 : S128x128.Transposes [1, 0] S128x128 := by decide
theorem tr2 : S128x32.Transposes [1, 0] S32x128 := by decide

/-- The words of a tile of bytes, transposed: row `j` holds byte column `j`. -/
def wordsT (x : Vec Ideal S512x128 .i8) : IVec S128x128 32 :=
  transpose S128x128 [1, 0] (bitcast S128x128 32 x bc1) tr1

/-- The same of a tile of thirty-two byte columns. -/
def wordsT32 (x : Vec Ideal S512x32 .i8) : IVec S32x128 32 :=
  transpose S32x128 [1, 0] (bitcast S128x32 32 x bc2) tr2

theorem wordsT_apply (x : Vec Ideal S512x128 .i8) (j r : Fin 128) (b : Nat) (hb : b < 4) :
    byteOf (wordsT x (ix2 j r)) b = x (ix2 ⟨4 * r.val + b, by omega⟩ j) := by
  rw [← byteOf_bitcast x bc1 r j b hb ⟨4 * r.val + b, by omega⟩ rfl]
  unfold wordsT
  pointwise

theorem wordsT32_apply (x : Vec Ideal S512x32 .i8) (j : Fin 32) (r : Fin 128) (b : Nat) (hb : b < 4) :
    byteOf (wordsT32 x (ix2 j r)) b = x (ix2 ⟨4 * r.val + b, by omega⟩ j) := by
  rw [← byteOf_bitcast x bc2 r j b hb ⟨4 * r.val + b, by omega⟩ rfl]
  unfold wordsT32
  pointwise

/-! ## The code words: four groups of rows, interleaved -/

theorem sl0 : S128x128.Slices ![0, 0] S32x128 := by decide
theorem sl32 : S128x128.Slices ![32, 0] S32x128 := by decide
theorem sl64 : S128x128.Slices ![64, 0] S32x128 := by decide
theorem sl96 : S128x128.Slices ![96, 0] S32x128 := by decide
theorem scst : S32x128.ShapeCasts S32x128 := by decide
theorem inb0 : ∀ a, S32x128.size a = 0 ∨ (![0, 0] : Fin 2 → Nat) a + (![2, 1] : Fin 2 → Nat) a * (S32x128.size a - 1) < S128x128.size a := by decide
theorem inb64 : ∀ a, S32x128.size a = 0 ∨ (![64, 0] : Fin 2 → Nat) a + (![2, 1] : Fin 2 → Nat) a * (S32x128.size a - 1) < S128x128.size a := by decide
theorem inb1 : ∀ a, S32x128.size a = 0 ∨ (![1, 0] : Fin 2 → Nat) a + (![2, 1] : Fin 2 → Nat) a * (S32x128.size a - 1) < S128x128.size a := by decide
theorem inb65 : ∀ a, S32x128.size a = 0 ∨ (![65, 0] : Fin 2 → Nat) a + (![2, 1] : Fin 2 → Nat) a * (S32x128.size a - 1) < S128x128.size a := by decide
theorem pos21 : ∀ a, 0 < (![2, 1] : Fin 2 → Nat) a := by decide

/-- The four writes of the transposed code words of a chunk, the last one first. -/
def wordPieces (T : IVec S128x128 32) : List (View.Piece (Elt Ideal) S128x128 .i32) :=
  [⟨⟨(⟨![65, 0], S32x128.size, ![2, 1], inb65⟩ : LoadRect S128x128), pos21⟩, shapeCast S32x128 (extractStridedSlice S32x128 ![96, 0] T sl96) scst⟩,
   ⟨⟨(⟨![1, 0], S32x128.size, ![2, 1], inb1⟩ : LoadRect S128x128), pos21⟩, shapeCast S32x128 (extractStridedSlice S32x128 ![64, 0] T sl64) scst⟩,
   ⟨⟨(⟨![64, 0], S32x128.size, ![2, 1], inb64⟩ : LoadRect S128x128), pos21⟩, shapeCast S32x128 (extractStridedSlice S32x128 ![32, 0] T sl32) scst⟩,
   ⟨⟨(⟨![0, 0], S32x128.size, ![2, 1], inb0⟩ : LoadRect S128x128), pos21⟩, shapeCast S32x128 (extractStridedSlice S32x128 ![0, 0] T sl0) scst⟩]

/-- What the code-word buffer holds: row `64 p + 2 j + e` is row `64 e + 32 p + j` of the transposed words. -/
def wordVal (T : IVec S128x128 32) : S128x128.Idx → Elt Ideal .i32 := fun y =>
  T (ix2 ⟨64 * ((y 0).val % 2) + 32 * ((y 0).val / 64) + (y 0).val % 64 / 2, by have : (y 0).val < 128 := (y 0).isLt; omega⟩ ⟨(y 1).val, (y 1).isLt⟩)

theorem wordVal_eq (T : IVec S128x128 32) (y : S128x128.Idx) (p j e : Nat) (hp : p < 2) (hj : j < 32) (he : e < 2) (l : Fin 128)
    (h0 : (y 0).val = 64 * p + e + 2 * j) (h1 : (y 1).val = l.val) :
    wordVal T y = T (ix2 ⟨64 * e + 32 * p + j, by omega⟩ l) := by
  unfold wordVal
  congr 2
  · apply Fin.ext
    show 64 * ((y 0).val % 2) + 32 * ((y 0).val / 64) + (y 0).val % 64 / 2 = 64 * e + 32 * p + j
    omega
  · exact Fin.ext h1

theorem wordPiece_agrees (T : IVec S128x128 32) (p e k o : Nat) (hp : p < 2) (he : e < 2) (hk : k = 64 * e + 32 * p) (ho : o = 64 * p + e)
    (hs : S128x128.Slices ![k, 0] S32x128)
    (hi : ∀ a, S32x128.size a = 0 ∨ (![o, 0] : Fin 2 → Nat) a + (![2, 1] : Fin 2 → Nat) a * (S32x128.size a - 1) < S128x128.size a)
    (x : S32x128.Idx) :
    shapeCast S32x128 (extractStridedSlice S32x128 ![k, 0] T hs) scst x
      = wordVal T ((⟨(⟨![o, 0], S32x128.size, ![2, 1], hi⟩ : LoadRect S128x128), pos21⟩ : Rect S128x128).emb x) := by
  obtain ⟨j, l, rfl⟩ : ∃ (j : Fin 32) (l : Fin 128), x = ix2 j l := ⟨x 0, x 1, by funext a; fin_cases a <;> rfl⟩
  rw [wordVal_eq T _ p j.val e hp j.isLt he l (show o + 2 * j.val = _ by omega) (show 0 + 1 * l.val = l.val by omega)]
  subst hk
  pointwise

theorem wordPieces_agree (T : IVec S128x128 32) : ∀ p ∈ wordPieces T, ∀ x : p.1.shape.Idx, p.2 x = wordVal T (p.1.emb x) := by
  unfold wordPieces
  simp only [List.forall_mem_cons]
  refine ⟨?_, ?_, ?_, ?_, fun p hp => by cases hp⟩
  · exact wordPiece_agrees T 1 1 96 65 (by omega) (by omega) rfl rfl sl96 inb65
  · exact wordPiece_agrees T 0 1 64 1 (by omega) (by omega) rfl rfl sl64 inb1
  · exact wordPiece_agrees T 1 0 32 64 (by omega) (by omega) rfl rfl sl32 inb64
  · exact wordPiece_agrees T 0 0 0 0 (by omega) (by omega) rfl rfl sl0 inb0

/-- A read of the code-word buffer after its four writes. -/
theorem canon_wordPieces (T : IVec S128x128 32) (old : List (View.Piece (Elt Ideal) S128x128 .i32)) (y : S128x128.Idx)
    (p j e : Nat) (hp : p < 2) (hj : j < 32) (he : e < 2) (l : Fin 128)
    (h0 : (y 0).val = 64 * p + e + 2 * j) (h1 : (y 1).val = l.val) :
    View.canon (wordPieces T ++ old) y = T (ix2 ⟨64 * e + 32 * p + j, by omega⟩ l) := by
  rw [View.canon_append_of_pieces _ old _ (wordPieces_agree T) y, wordVal_eq T y p j e hp hj he l h0 h1]
  have hm : ∀ (r : Rect S128x128) (x : r.shape.Idx), r.emb x = y → y ∈ r.set := by
    intro r x hx
    rw [← Rect.map_emb_univ, ← hx]
    exact Finset.mem_map_of_mem _ (Finset.mem_univ _)
  have hp' : p = 0 ∨ p = 1 := by omega
  have he' : e = 0 ∨ e = 1 := by omega
  have fin : ∀ (o : Nat) (hi : ∀ a, S32x128.size a = 0 ∨ (![o, 0] : Fin 2 → Nat) a + (![2, 1] : Fin 2 → Nat) a * (S32x128.size a - 1) < S128x128.size a),
      o = 64 * p + e → y ∈ (⟨(⟨![o, 0], S32x128.size, ![2, 1], hi⟩ : LoadRect S128x128), pos21⟩ : Rect S128x128).set := by
    intro o hi ho
    refine hm _ (ix2 (⟨j, hj⟩ : Fin 32) l) ?_
    funext a
    fin_cases a
    · exact Fin.ext (show o + 2 * j = (y 0).val by omega)
    · exact Fin.ext (show 0 + 1 * l.val = (y 1).val by omega)
  rcases hp' with rfl | rfl <;> rcases he' with rfl | rfl
  · exact ⟨_, List.mem_of_getElem? (i := 3) rfl, fin 0 inb0 rfl⟩
  · exact ⟨_, List.mem_of_getElem? (i := 1) rfl, fin 1 inb1 rfl⟩
  · exact ⟨_, List.mem_of_getElem? (i := 2) rfl, fin 64 inb64 rfl⟩
  · exact ⟨_, List.mem_of_getElem? (i := 0) rfl, fin 65 inb65 rfl⟩

/-! ## The codes -/

theorem bc3 : S64x128.Bitcasts 32 S256x128 8 := by decide

/-- The low codes of sixty-four rows of words. -/
def codesLo (w : Vec Ideal S64x128 .i32) : FVec Ideal S256x128 .f32 :=
  extf .f32 (bitcastToFloat .fp8e4m3 (bitcast S256x128 8 (andi w (broadcast S64x128 252645135#32)) bc3)) (by decide)

/-- The high codes of sixty-four rows of words. -/
def codesHi (w : Vec Ideal S64x128 .i32) : FVec Ideal S256x128 .f32 :=
  extf .f32 (bitcastToFloat .fp8e4m3 (bitcast S256x128 8 (andi (shrsi w (broadcast S64x128 4#32)) (broadcast S64x128 252645135#32)) bc3)) (by decide)

theorem lo_byte (w : BitVec 32) (b : Nat) (hb : b < 4) : byteOf (w &&& 252645135#32) b = byteOf w b &&& 15#8 := by
  apply BitVec.eq_of_getLsbD_eq
  intro i hi
  interval_cases b <;> interval_cases i <;> simp [BitVec.getLsbD_extractLsb']

theorem hi_byte (w : BitVec 32) (b : Nat) (hb : b < 4) : byteOf (w.sshiftRight 4 &&& 252645135#32) b = byteOf w b >>> 4 := by
  apply BitVec.eq_of_getLsbD_eq
  intro i hi
  interval_cases b <;> interval_cases i <;> simp [BitVec.getLsbD_extractLsb', BitVec.getLsbD_sshiftRight, BitVec.getElem_sshiftRight]

/-- The code of byte `v` for the low (`0`) or high half. -/
def nib (half : Nat) (v : BitVec 8) : Nat := if half = 0 then v.toNat % 16 else v.toNat / 16

/-- One low code, at the row of byte `b` of word row `a`. -/
theorem codesLo_apply (w : Vec Ideal S64x128 .i32) (p : Fin 256) (l : Fin 128) (a : Fin 64) (b : Nat) (hb : b < 4) (hp : p.val = 4 * a.val + b) :
    (codesLo w (ix2 p l) : EReal) = (((nib 0 (byteOf (w (ix2 a l)) b) : ℝ) / 512 : ℝ) : EReal) := by
  have h1 : (codesLo w (ix2 p l) : EReal) = Ideal.e4m3fn (bitcast S256x128 8 (andi w (broadcast S64x128 252645135#32)) bc3 (ix2 p l)) := rfl
  rw [h1, bitcast_byteOf _ bc3 p l a b hb hp]
  have h2 : andi w (broadcast S64x128 252645135#32) (ix2 a l) = w (ix2 a l) &&& 252645135#32 := rfl
  rw [h2, lo_byte _ b hb]
  have h3 : (byteOf (w (ix2 a l)) b &&& 15#8).toNat = (byteOf (w (ix2 a l)) b).toNat % 16 := by
    rw [BitVec.toNat_and]; exact Nat.and_two_pow_sub_one_eq_mod _ 4
  rw [Cert.Half.code_eq _ (by rw [h3]; omega), h3]
  rfl

/-- One high code. -/
theorem codesHi_apply (w : Vec Ideal S64x128 .i32) (p : Fin 256) (l : Fin 128) (a : Fin 64) (b : Nat) (hb : b < 4) (hp : p.val = 4 * a.val + b) :
    (codesHi w (ix2 p l) : EReal) = (((nib 1 (byteOf (w (ix2 a l)) b) : ℝ) / 512 : ℝ) : EReal) := by
  have h1 : (codesHi w (ix2 p l) : EReal) = Ideal.e4m3fn (bitcast S256x128 8 (andi (shrsi w (broadcast S64x128 4#32)) (broadcast S64x128 252645135#32)) bc3 (ix2 p l)) := rfl
  rw [h1, bitcast_byteOf _ bc3 p l a b hb hp]
  have h2 : andi (shrsi w (broadcast S64x128 4#32)) (broadcast S64x128 252645135#32) (ix2 a l) = (w (ix2 a l)).sshiftRight 4 &&& 252645135#32 := by
    rfl
  rw [h2, hi_byte _ b hb]
  have h3 : (byteOf (w (ix2 a l)) b >>> 4).toNat = (byteOf (w (ix2 a l)) b).toNat / 16 := by
    rw [BitVec.toNat_ushiftRight, Nat.shiftRight_eq_div_pow]
  have := (byteOf (w (ix2 a l)) b).isLt
  rw [Cert.Half.code_eq _ (by rw [h3]; omega), h3]
  rfl

/-! ## The sub-block scales -/

theorem bc4 : S2x128.Bitcasts 32 S8x128 8 := by decide

/-- Eight rows of byte scales times eight rows of block scales. -/
def scaleRow (d : FVec Ideal S8x128 .f32) (w : Vec Ideal S2x128 .i32) : FVec Ideal S8x128 .f32 :=
  mulf (sitofp .f32 (extui 32 (bitcast S8x128 8 w bc4) (by decide))) d

theorem byte_toInt (v : BitVec 8) : (v.setWidth 32).toInt = v.toNat := by
  have := v.isLt
  rw [BitVec.toInt_eq_toNat_cond, BitVec.toNat_setWidth, Nat.mod_eq_of_lt (show v.toNat < 2 ^ 32 by omega), if_pos (by omega)]

theorem scaleRow_apply (d : FVec Ideal S8x128 .f32) (w : Vec Ideal S2x128 .i32) (p : Fin 8) (l : Fin 128) (e : Fin 2) (b : Nat) (hb : b < 4)
    (hp : p.val = 4 * e.val + b) :
    (scaleRow d w (ix2 p l) : EReal) = (((byteOf (w (ix2 e l)) b).toNat : ℝ) : EReal) * d (ix2 p l) := by
  have h1 : (scaleRow d w (ix2 p l) : EReal) = ((((bitcast S8x128 8 w bc4 (ix2 p l)).setWidth 32).toInt : ℝ) : EReal) * d (ix2 p l) := rfl
  rw [h1, bitcast_byteOf _ bc4 p l e b hb hp, byte_toInt]
  norm_cast

theorem inbA : ∀ a, (![0, 0] : Fin 2 → Nat) a + S128x128.size a ≤ S160x128.size a := by decide
theorem inbB : ∀ a, (![128, 0] : Fin 2 → Nat) a + S32x128.size a ≤ S160x128.size a := by decide
theorem scstA : S128x128.ShapeCasts S128x128 := by decide

/-- The two writes of a tile's byte scales, as transposed words. -/
def scalePieces (A : Vec Ideal S512x128 .i8) (B : Vec Ideal S512x32 .i8) : List (View.Piece (Elt Ideal) S160x128 .i32) :=
  [⟨Rect.unit ![128, 0] S32x128.size inbB, shapeCast S32x128 (wordsT32 B) scst⟩, ⟨Rect.unit ![0, 0] S128x128.size inbA, shapeCast S128x128 (wordsT A) scstA⟩]

/-- A read of a list at an index under its newest piece. -/
theorem canon_cons_at {S : Shape} {e : EltTy} (r : Rect S) (w : r.shape.Idx → Elt Ideal e) (L : List (View.Piece (Elt Ideal) S e)) (x : r.shape.Idx) (y : S.Idx)
    (hy : ∀ a, (y a).val = r.off a + r.stride a * (x a).val) : View.canon (⟨r, w⟩ :: L) y = w x := by
  have : y = r.emb x := funext fun a => Fin.ext (hy a)
  rw [this, View.canon_cons_emb]

/-- The same for a rectangle of consecutive rows and columns. -/
theorem canon_unit2_at {R C n0 n1 : Nat} {e : EltTy} (o0 o1 : Nat) (h : ∀ a, (![o0, o1] : Fin 2 → Nat) a + (![n0, n1] : Fin 2 → Nat) a ≤ (![R, C] : Fin 2 → Nat) a)
    (w : (⟨2, ![n0, n1]⟩ : Shape).Idx → Elt Ideal e) (L : List (View.Piece (Elt Ideal) ⟨2, ![R, C]⟩ e)) (i : Fin n0) (j : Fin n1) (y : (⟨2, ![R, C]⟩ : Shape).Idx)
    (h0 : (y 0).val = o0 + i.val) (h1 : (y 1).val = o1 + j.val) :
    View.canon (⟨Rect.unit (s := ⟨2, ![R, C]⟩) ![o0, o1] ![n0, n1] h, w⟩ :: L) y = w (ix2 i j) := by
  refine canon_cons_at (Rect.unit (s := ⟨2, ![R, C]⟩) ![o0, o1] ![n0, n1] h) w L (ix2 i j) y ?_
  intro a
  fin_cases a
  · show (y 0).val = o0 + 1 * i.val
    omega
  · show (y 1).val = o1 + 1 * j.val
    omega

/-- The same for a rectangle of rows at a stride. -/
theorem canon_strided2_at {R C n0 n1 : Nat} {e : EltTy} (o s : Nat) (h : ∀ a, (![n0, n1] : Fin 2 → Nat) a = 0 ∨ (![o, 0] : Fin 2 → Nat) a + (![s, 1] : Fin 2 → Nat) a * ((![n0, n1] : Fin 2 → Nat) a - 1) < (![R, C] : Fin 2 → Nat) a)
    (hs : ∀ a, 0 < (![s, 1] : Fin 2 → Nat) a)
    (w : (⟨2, ![n0, n1]⟩ : Shape).Idx → Elt Ideal e) (L : List (View.Piece (Elt Ideal) ⟨2, ![R, C]⟩ e)) (i : Fin n0) (j : Fin n1) (y : (⟨2, ![R, C]⟩ : Shape).Idx)
    (h0 : (y 0).val = o + s * i.val) (h1 : (y 1).val = j.val) :
    View.canon (⟨(⟨(⟨![o, 0], ![n0, n1], ![s, 1], h⟩ : LoadRect ⟨2, ![R, C]⟩), hs⟩ : Rect ⟨2, ![R, C]⟩), w⟩ :: L) y = w (ix2 i j) := by
  refine canon_cons_at (⟨(⟨![o, 0], ![n0, n1], ![s, 1], h⟩ : LoadRect ⟨2, ![R, C]⟩), hs⟩ : Rect ⟨2, ![R, C]⟩) w L (ix2 i j) y ?_
  intro a
  fin_cases a
  · show (y 0).val = o + s * i.val
    omega
  · show (y 1).val = 0 + 1 * j.val
    omega

/-- A read of a list at an index off its newest piece. -/
theorem canon_cons_off {S : Shape} {e : EltTy} (r : Rect S) (w : r.shape.Idx → Elt Ideal e) (L : List (View.Piece (Elt Ideal) S e)) (y : S.Idx) (a : Fin S.rank)
    (hy : ∀ j, j < r.size a → (y a).val ≠ r.off a + r.stride a * j) : View.canon (⟨r, w⟩ :: L) y = View.canon L y := by
  refine View.canon_cons_of_not_mem _ _ fun h => ?_
  obtain ⟨j, hj, e⟩ := (r.toLoadRect.mem_set.mp h) a
  exact hy j hj e

/-- A read of the byte scales: byte `b` of word row `k`, lane `l`. -/
theorem canon_scalePieces (A : Vec Ideal S512x128 .i8) (B : Vec Ideal S512x32 .i8) (old : List (View.Piece (Elt Ideal) S160x128 .i32)) (SC : Fin 512 → Fin 160 → BitVec 8)
    (hA : ∀ (r : Fin 512) (k : Fin 128), A (ix2 r k) = SC r ⟨k.val, by omega⟩)
    (hB : ∀ (r : Fin 512) (k : Fin 32), B (ix2 r k) = SC r ⟨128 + k.val, by omega⟩)
    (y : S160x128.Idx) (k : Fin 160) (l : Fin 128) (h0 : (y 0).val = k.val) (h1 : (y 1).val = l.val) (b : Nat) (hb : b < 4) :
    byteOf (View.canon (scalePieces A B ++ old) y) b = SC ⟨4 * l.val + b, by omega⟩ k := by
  unfold scalePieces
  rw [List.cons_append, List.cons_append]
  by_cases hk : k.val < 128
  · rw [canon_cons_off _ _ _ y 0 (fun j _ h => by
      have : (y 0).val = 128 + 1 * j := h
      omega)]
    have e := canon_unit2_at (R := 160) 0 0 inbA (shapeCast S128x128 (wordsT A) scstA : S128x128.Idx → Elt Ideal .i32) ([] ++ old) ⟨k.val, hk⟩ l y (by show _ = 0 + k.val; omega) (by omega)
    rw [e]
    refine Eq.trans (b := byteOf (wordsT A (ix2 (⟨k.val, hk⟩ : Fin 128) l)) b) (congrArg (byteOf · b) (by pointwise)) ?_
    rw [wordsT_apply A _ _ b hb, hA]
  · have e := canon_unit2_at (R := 160) 128 0 inbB (shapeCast S32x128 (wordsT32 B) scst : S32x128.Idx → Elt Ideal .i32) (⟨Rect.unit (s := S160x128) ![0, 0] S128x128.size inbA, (shapeCast S128x128 (wordsT A) scstA : S128x128.Idx → Elt Ideal .i32)⟩ :: ([] ++ old)) ⟨k.val - 128, by omega⟩ l y (by show _ = 128 + (k.val - 128); omega) (by omega)
    rw [e]
    refine Eq.trans (b := byteOf (wordsT32 B (ix2 (⟨k.val - 128, by omega⟩ : Fin 32) l)) b) (congrArg (byteOf · b) (by pointwise)) ?_
    rw [wordsT32_apply B _ _ b hb, hB]
    congr 1
    exact Fin.ext (show 128 + (k.val - 128) = k.val by omega)

end Cert.Words
-- ==== Proof.Blocks.lean ====
module

public import proofs.«01_k».proof.Proof.Words

@[expose] public section

noncomputable section

namespace Cert.Words

open Idealize.ShloMosaic Cert.Ring

abbrev S20x128 : Shape := ⟨2, ![20, 128]⟩
abbrev S128x20 : Shape := ⟨2, ![128, 20]⟩
abbrev S128x1x20 : Shape := ⟨3, ![128, 1, 20]⟩
abbrev S128x2x20 : Shape := ⟨3, ![128, 2, 20]⟩

/-! ## The block scales: half-precision words decoded by integer operations -/

section
variable {s : Shape}
theorem at_bits (x : IVec s 32) (j : s.Idx) : (bitcastToFloat (F := Ideal) .f32 x j : EReal) = Ideal.ieee 8 23 (x j) := rfl
theorem at_const (w : BitVec 32) : (Scalar.ofBits (F := Ideal) .f32 w : EReal) = Ideal.ieee 8 23 w := rfl
theorem at_sel {α : Type} (c : IVec s 1) (a b : s.Idx → α) (j : s.Idx) : select c a b j = Scalar.select (c j) (a j) (b j) := rfl
theorem at_cmp (p : CmpIPredicate) (a b : IVec s 32) (j : s.Idx) : cmpi p a b j = IntOp.cmpi p (a j) (b j) := rfl
theorem at_and (a b : IVec s 32) (j : s.Idx) : andi a b j = IntOp.andi (a j) (b j) := rfl
theorem at_or (a b : IVec s 32) (j : s.Idx) : ori a b j = IntOp.ori (a j) (b j) := rfl
theorem at_add (a b : IVec s 32) (j : s.Idx) : addi a b j = IntOp.addi (a j) (b j) := rfl
theorem at_shl (a b : IVec s 32) (j : s.Idx) : shli a b j = IntOp.shli .vector (a j) (b j) := rfl
theorem at_shr (a b : IVec s 32) (j : s.Idx) : shrui a b j = IntOp.shrui .vector (a j) (b j) := rfl
theorem at_sub (a b : FVec Ideal s .f32) (j : s.Idx) : (subf a b j : EReal) = a j - b j := rfl
theorem at_mul (a b : FVec Ideal s .f32) (j : s.Idx) : (mulf a b j : EReal) = a j * b j := rfl
theorem at_bcast {α : Type} (a : α) (j : s.Idx) : broadcast s a j = a := rfl
end

/-- The decoding of a tile of half-precision words, each in the low half of a 32-bit word. -/
def decodeRows (h : IVec S20x128 32) : FVec Ideal S20x128 .f32 :=
  let mag : IVec S20x128 32 := shli (andi h (broadcast S20x128 32767#32)) (broadcast S20x128 13#32)
  let normal : FVec Ideal S20x128 .f32 := bitcastToFloat .f32 (addi mag (broadcast S20x128 939524096#32))
  let sub : FVec Ideal S20x128 .f32 := subf (bitcastToFloat .f32 (addi mag (broadcast S20x128 947912704#32))) (broadcast S20x128 (Scalar.ofBits .f32 0x38800000#32))
  let special : FVec Ideal S20x128 .f32 := bitcastToFloat .f32 (ori mag (broadcast S20x128 2139095040#32))
  let v : FVec Ideal S20x128 .f32 := select (cmpi .slt mag (broadcast S20x128 8388608#32)) sub normal
  let v : FVec Ideal S20x128 .f32 := select (cmpi .sge mag (broadcast S20x128 260046848#32)) special v
  select (cmpi .ne (andi h (broadcast S20x128 32768#32)) (broadcast S20x128 0#32)) (subf (broadcast S20x128 (Scalar.ofBits .f32 0x00000000#32)) v) v

/-- The same decoding with its constants as variables. -/
def decodeWith (c1 c2 c3 c4 c5 c6 c7 c8 c9 : BitVec 32) (z z' : Ideal .f32) (h : IVec S20x128 32) : FVec Ideal S20x128 .f32 :=
  let mag : IVec S20x128 32 := shli (andi h (broadcast S20x128 c1)) (broadcast S20x128 c2)
  let normal : FVec Ideal S20x128 .f32 := bitcastToFloat .f32 (addi mag (broadcast S20x128 c3))
  let sub : FVec Ideal S20x128 .f32 := subf (bitcastToFloat .f32 (addi mag (broadcast S20x128 c4))) (broadcast S20x128 z)
  let special : FVec Ideal S20x128 .f32 := bitcastToFloat .f32 (ori mag (broadcast S20x128 c5))
  let v : FVec Ideal S20x128 .f32 := select (cmpi .slt mag (broadcast S20x128 c6)) sub normal
  let v : FVec Ideal S20x128 .f32 := select (cmpi .sge mag (broadcast S20x128 c7)) special v
  select (cmpi .ne (andi h (broadcast S20x128 c8)) (broadcast S20x128 c9)) (subf (broadcast S20x128 z') v) v

/-- The decoding of one word with its constants as variables. -/
def decodeWordWith (c1 c2 c3 c4 c5 c6 c7 c8 c9 : BitVec 32) (z z' : EReal) (h : BitVec 32) : EReal :=
  let mag := IntOp.shli .vector (IntOp.andi h c1) c2
  let v := Scalar.select (IntOp.cmpi .slt mag c6) (Ideal.ieee 8 23 (IntOp.addi mag c4) - z) (Ideal.ieee 8 23 (IntOp.addi mag c3))
  let v := Scalar.select (IntOp.cmpi .sge mag c7) (Ideal.ieee 8 23 (IntOp.ori mag c5)) v
  Scalar.select (IntOp.cmpi .ne (IntOp.andi h c8) c9) (z' - v) v

theorem decodeWith_apply (c1 c2 c3 c4 c5 c6 c7 c8 c9 : BitVec 32) (z z' : EReal) (h : IVec S20x128 32) (j : S20x128.Idx) :
    (decodeWith c1 c2 c3 c4 c5 c6 c7 c8 c9 z z' h j : EReal) = decodeWordWith c1 c2 c3 c4 c5 c6 c7 c8 c9 z z' (h j) := rfl

theorem decodeRows_apply (h : IVec S20x128 32) (j : S20x128.Idx) : (decodeRows h j : EReal) = Cert.Half.decode (h j) := by
  have e1 : decodeRows h = decodeWith 32767#32 13#32 939524096#32 947912704#32 2139095040#32 8388608#32 260046848#32 32768#32 0#32
      (Scalar.ofBits .f32 0x38800000#32) (Scalar.ofBits .f32 0x00000000#32) h := by
    unfold decodeRows decodeWith
    rfl
  have e2 : Cert.Half.decode (h j) = decodeWordWith 32767#32 13#32 939524096#32 947912704#32 2139095040#32 8388608#32 260046848#32 32768#32 0#32
      (Ideal.ieee 8 23 0x38800000#32) (Ideal.ieee 8 23 0#32) (h j) := by
    unfold Cert.Half.decode decodeWordWith
    rfl
  rw [e1, e2, ← at_const, ← at_const]
  exact decodeWith_apply _ _ _ _ _ _ _ _ _ _ _ h j

theorem bc5 : S128x2x20.Bitcasts 16 S128x1x20 32 := by decide
theorem dsc : S128x1x20.ShapeCasts S128x20 := by decide
theorem dtr : S128x20.Transposes [1, 0] S20x128 := by decide
theorem dcst : S20x128.ShapeCasts S20x128 := by decide

/-- The words of a tile of pairs of half-precision words, transposed. -/
def pairWords (raw : Vec Ideal S128x2x20 .i16) : IVec S20x128 32 :=
  transpose S20x128 [1, 0] (shapeCast S128x20 (bitcast S128x1x20 32 raw bc5) dsc) dtr

theorem pairWords_apply (raw : Vec Ideal S128x2x20 .i16) (k : Fin 20) (r : Fin 128) :
    pairWords raw (ix2 k r) = (raw (ix3 r 1 k) : BitVec 16) ++ (raw (ix3 r 0 k) : BitVec 16) := by
  have h1 : pairWords raw (ix2 k r) = bitcast S128x1x20 32 raw bc5 (ix3 r 0 k) := by
    unfold pairWords
    pointwise
  rw [h1, bitcast_16_32]
  have e : ∀ (i : Fin 2) (q : Nat) (hq : _) , q = i.val + 0 → raw (bc5.srcIdx (ix3 r (0 : Fin 1) k) q hq) = raw (ix3 r i k) := by
    intro i q hq hi
    congr 1
    funext c
    match c with
    | ⟨0, _⟩ => exact Fin.ext (bc5.srcIdx_other _ _ _ ⟨0, by decide⟩ (by decide))
    | ⟨1, _⟩ => exact Fin.ext ((bc5.srcIdx_row _ _ _ ⟨1, by decide⟩ rfl).trans hi)
    | ⟨2, _⟩ => exact Fin.ext (bc5.srcIdx_other _ _ _ ⟨2, by decide⟩ (by decide))
  congr 1
  · exact e 1 _ _ rfl
  · exact e 0 _ _ rfl

/-- The low half-precision word of each pair, decoded and scaled. -/
def dLo (fac : BitVec 32) (raw : Vec Ideal S128x2x20 .i16) : FVec Ideal S20x128 .f32 :=
  mulf (decodeRows (andi (pairWords raw) (broadcast S20x128 65535#32))) (broadcast S20x128 (Scalar.ofBits .f32 fac))

/-- The high half-precision word of each pair, decoded and scaled. -/
def dHi (fac : BitVec 32) (raw : Vec Ideal S128x2x20 .i16) : FVec Ideal S20x128 .f32 :=
  mulf (decodeRows (shrui (pairWords raw) (broadcast S20x128 16#32))) (broadcast S20x128 (Scalar.ofBits .f32 fac))

theorem lo_half (a b : BitVec 16) : (a ++ b) &&& 65535#32 = b.setWidth 32 := by
  apply BitVec.eq_of_toNat_eq
  have := b.isLt
  rw [BitVec.toNat_and, BitVec.toNat_append, BitVec.toNat_setWidth, show (65535#32 : BitVec 32).toNat = 2 ^ 16 - 1 from rfl, Nat.and_two_pow_sub_one_eq_mod,
    Nat.mod_eq_of_lt (show b.toNat < 2 ^ 32 by omega), Nat.or_mod_two_pow, Nat.shiftLeft_eq, Nat.mul_mod_left, Nat.zero_or, Nat.mod_eq_of_lt b.isLt]

theorem hi_half (a b : BitVec 16) : (a ++ b) >>> 16 = a.setWidth 32 := by
  apply BitVec.eq_of_toNat_eq
  have := a.isLt
  have := b.isLt
  rw [BitVec.toNat_ushiftRight, BitVec.toNat_append, BitVec.toNat_setWidth, Nat.shiftRight_or_distrib, Nat.shiftLeft_shiftRight,
    Nat.shiftRight_eq_div_pow, Nat.div_eq_of_lt b.isLt, Nat.or_zero, Nat.mod_eq_of_lt (show a.toNat < 2 ^ 32 by omega)]

theorem scaled_lane (w : IVec S20x128 32) (z : Ideal .f32) (j : S20x128.Idx) : (mulf (decodeRows w) (broadcast S20x128 z) j : EReal) = Cert.Half.decode (w j) * z :=
  congrArg (fun v : EReal => v * z) (decodeRows_apply w j)

theorem and_lane (w : IVec S20x128 32) (c : BitVec 32) (j : S20x128.Idx) : andi w (broadcast S20x128 c) j = w j &&& c := rfl
theorem shr_lane (w : IVec S20x128 32) (c : BitVec 32) (j : S20x128.Idx) : shrui w (broadcast S20x128 c) j = IntOp.shrui .vector (w j) c := rfl

theorem dLo_apply (fac : BitVec 32) (raw : Vec Ideal S128x2x20 .i16) (k : Fin 20) (r : Fin 128) :
    (dLo fac raw (ix2 k r) : EReal) = Cert.Half.decode ((raw (ix3 r 0 k) : BitVec 16).setWidth 32) * Ideal.ieee 8 23 fac := by
  have h : (dLo fac raw (ix2 k r) : EReal) = Cert.Half.decode (pairWords raw (ix2 k r) &&& 65535#32) * Ideal.ieee 8 23 fac := by
    refine (scaled_lane _ (Scalar.ofBits .f32 fac) _).trans ?_
    rw [and_lane, at_const]
  rw [h, pairWords_apply, lo_half]

theorem shr16 (x : BitVec 32) : IntOp.shrui .vector x 16#32 = x >>> 16 := by
  rfl

theorem dHi_apply (fac : BitVec 32) (raw : Vec Ideal S128x2x20 .i16) (k : Fin 20) (r : Fin 128) :
    (dHi fac raw (ix2 k r) : EReal) = Cert.Half.decode ((raw (ix3 r 1 k) : BitVec 16).setWidth 32) * Ideal.ieee 8 23 fac := by
  have h : (dHi fac raw (ix2 k r) : EReal) = Cert.Half.decode (pairWords raw (ix2 k r) >>> 16) * Ideal.ieee 8 23 fac := by
    refine (scaled_lane _ (Scalar.ofBits .f32 fac) _).trans ?_
    rw [shr_lane, at_const, shr16]
  rw [h, pairWords_apply, hi_half]

theorem dinb0 : ∀ a, S20x128.size a = 0 ∨ (![0, 0] : Fin 2 → Nat) a + (![8, 1] : Fin 2 → Nat) a * (S20x128.size a - 1) < S160x128.size a := by decide
theorem dinb1 : ∀ a, S20x128.size a = 0 ∨ (![1, 0] : Fin 2 → Nat) a + (![8, 1] : Fin 2 → Nat) a * (S20x128.size a - 1) < S160x128.size a := by decide
theorem dinb2 : ∀ a, S20x128.size a = 0 ∨ (![2, 0] : Fin 2 → Nat) a + (![8, 1] : Fin 2 → Nat) a * (S20x128.size a - 1) < S160x128.size a := by decide
theorem dinb3 : ∀ a, S20x128.size a = 0 ∨ (![3, 0] : Fin 2 → Nat) a + (![8, 1] : Fin 2 → Nat) a * (S20x128.size a - 1) < S160x128.size a := by decide
theorem dinb4 : ∀ a, S20x128.size a = 0 ∨ (![4, 0] : Fin 2 → Nat) a + (![8, 1] : Fin 2 → Nat) a * (S20x128.size a - 1) < S160x128.size a := by decide
theorem dinb5 : ∀ a, S20x128.size a = 0 ∨ (![5, 0] : Fin 2 → Nat) a + (![8, 1] : Fin 2 → Nat) a * (S20x128.size a - 1) < S160x128.size a := by decide
theorem dinb6 : ∀ a, S20x128.size a = 0 ∨ (![6, 0] : Fin 2 → Nat) a + (![8, 1] : Fin 2 → Nat) a * (S20x128.size a - 1) < S160x128.size a := by decide
theorem dinb7 : ∀ a, S20x128.size a = 0 ∨ (![7, 0] : Fin 2 → Nat) a + (![8, 1] : Fin 2 → Nat) a * (S20x128.size a - 1) < S160x128.size a := by decide
theorem pos81 : ∀ a, 0 < (![8, 1] : Fin 2 → Nat) a := by decide

/-- The eight writes of a tile's block scales, the last one first. -/
def blockPieces (fac : BitVec 32) (raw0 raw1 : Vec Ideal S128x2x20 .i16) : List (View.Piece (Elt Ideal) S160x128 .f32) :=
  [⟨⟨(⟨![7, 0], S20x128.size, ![8, 1], dinb7⟩ : LoadRect S160x128), pos81⟩, (shapeCast S20x128 (dHi fac raw1) dcst : S20x128.Idx → Elt Ideal .f32)⟩,
   ⟨⟨(⟨![3, 0], S20x128.size, ![8, 1], dinb3⟩ : LoadRect S160x128), pos81⟩, (shapeCast S20x128 (dHi fac raw1) dcst : S20x128.Idx → Elt Ideal .f32)⟩,
   ⟨⟨(⟨![6, 0], S20x128.size, ![8, 1], dinb6⟩ : LoadRect S160x128), pos81⟩, (shapeCast S20x128 (dLo fac raw1) dcst : S20x128.Idx → Elt Ideal .f32)⟩,
   ⟨⟨(⟨![2, 0], S20x128.size, ![8, 1], dinb2⟩ : LoadRect S160x128), pos81⟩, (shapeCast S20x128 (dLo fac raw1) dcst : S20x128.Idx → Elt Ideal .f32)⟩,
   ⟨⟨(⟨![5, 0], S20x128.size, ![8, 1], dinb5⟩ : LoadRect S160x128), pos81⟩, (shapeCast S20x128 (dHi fac raw0) dcst : S20x128.Idx → Elt Ideal .f32)⟩,
   ⟨⟨(⟨![1, 0], S20x128.size, ![8, 1], dinb1⟩ : LoadRect S160x128), pos81⟩, (shapeCast S20x128 (dHi fac raw0) dcst : S20x128.Idx → Elt Ideal .f32)⟩,
   ⟨⟨(⟨![4, 0], S20x128.size, ![8, 1], dinb4⟩ : LoadRect S160x128), pos81⟩, (shapeCast S20x128 (dLo fac raw0) dcst : S20x128.Idx → Elt Ideal .f32)⟩,
   ⟨⟨(⟨![0, 0], S20x128.size, ![8, 1], dinb0⟩ : LoadRect S160x128), pos81⟩, (shapeCast S20x128 (dLo fac raw0) dcst : S20x128.Idx → Elt Ideal .f32)⟩]

/-- What the block-scale table holds: row `8 k + 4 e + b`, lane `r`, is the decoded word of row `4 r + b` in column `k`, scaled. -/
def blockVal (fac : BitVec 32) (D : Fin 512 → Fin 20 → BitVec 16) : S160x128.Idx → EReal := fun y =>
  Cert.Half.decode ((D ⟨4 * (y 1).val + (y 0).val % 4, by have : (y 1).val < 128 := (y 1).isLt; omega⟩
    ⟨(y 0).val / 8, by have : (y 0).val < 160 := (y 0).isLt; omega⟩).setWidth 32) * Ideal.ieee 8 23 fac

theorem blockPiece_agrees (fac : BitVec 32) (D : Fin 512 → Fin 20 → BitVec 16) (w : FVec Ideal S20x128 .f32) (o b : Nat) (hb : b < 4) (ho : o % 4 = b) (ho8 : o < 8)
    (hw : ∀ (k : Fin 20) (r : Fin 128), (w (ix2 k r) : EReal) = Cert.Half.decode ((D ⟨4 * r.val + b, by omega⟩ k).setWidth 32) * Ideal.ieee 8 23 fac)
    (hi : ∀ a, S20x128.size a = 0 ∨ (![o, 0] : Fin 2 → Nat) a + (![8, 1] : Fin 2 → Nat) a * (S20x128.size a - 1) < S160x128.size a)
    (x : S20x128.Idx) :
    (shapeCast S20x128 w dcst x : EReal) = blockVal fac D ((⟨(⟨![o, 0], S20x128.size, ![8, 1], hi⟩ : LoadRect S160x128), pos81⟩ : Rect S160x128).emb x) := by
  obtain ⟨k, l, rfl⟩ : ∃ (k : Fin 20) (l : Fin 128), x = ix2 k l := ⟨x 0, x 1, by funext a; fin_cases a <;> rfl⟩
  refine Eq.trans (b := (w (ix2 k l) : EReal)) (by pointwise) ?_
  rw [hw]
  unfold blockVal
  have e : D ⟨4 * l.val + b, by omega⟩ k = D ⟨4 * (((⟨(⟨![o, 0], S20x128.size, ![8, 1], hi⟩ : LoadRect S160x128), pos81⟩ : Rect S160x128).emb (ix2 k l)) 1).val + (((⟨(⟨![o, 0], S20x128.size, ![8, 1], hi⟩ : LoadRect S160x128), pos81⟩ : Rect S160x128).emb (ix2 k l)) 0).val % 4, (show 4 * (0 + 1 * l.val) + (o + 8 * k.val) % 4 < 512 by omega)⟩ ⟨(((⟨(⟨![o, 0], S20x128.size, ![8, 1], hi⟩ : LoadRect S160x128), pos81⟩ : Rect S160x128).emb (ix2 k l)) 0).val / 8, (show (o + 8 * k.val) / 8 < 20 by omega)⟩ := by
    congr 1
    · exact Fin.ext (show 4 * l.val + b = 4 * (0 + 1 * l.val) + (o + 8 * k.val) % 4 by omega)
    · exact Fin.ext (show k.val = (o + 8 * k.val) / 8 by omega)
  rw [e]

section
variable (fac : BitVec 32) (raw0 raw1 : Vec Ideal S128x2x20 .i16) (D : Fin 512 → Fin 20 → BitVec 16)
    (h0 : ∀ (r : Fin 128) (i : Fin 2) (k : Fin 20), raw0 (ix3 r i k) = D ⟨4 * r.val + i.val, by omega⟩ k)
    (h1 : ∀ (r : Fin 128) (i : Fin 2) (k : Fin 20), raw1 (ix3 r i k) = D ⟨4 * r.val + 2 + i.val, by omega⟩ k)
include h0 h1

theorem blockPieces_agree : ∀ p ∈ blockPieces fac raw0 raw1, ∀ x : p.1.shape.Idx, p.2 x = (blockVal fac D (p.1.emb x) : Elt Ideal .f32) := by
  unfold blockPieces
  simp only [List.forall_mem_cons]
  refine ⟨?_, ?_, ?_, ?_, ?_, ?_, ?_, ?_, fun p hp => by cases hp⟩
  · exact blockPiece_agrees fac D _ 7 3 (by omega) rfl (by omega) (fun k r => (dHi_apply fac raw1 k r).trans (by rw [h1]; rfl)) dinb7
  · exact blockPiece_agrees fac D _ 3 3 (by omega) rfl (by omega) (fun k r => (dHi_apply fac raw1 k r).trans (by rw [h1]; rfl)) dinb3
  · exact blockPiece_agrees fac D _ 6 2 (by omega) rfl (by omega) (fun k r => (dLo_apply fac raw1 k r).trans (by rw [h1]; rfl)) dinb6
  · exact blockPiece_agrees fac D _ 2 2 (by omega) rfl (by omega) (fun k r => (dLo_apply fac raw1 k r).trans (by rw [h1]; rfl)) dinb2
  · exact blockPiece_agrees fac D _ 5 1 (by omega) rfl (by omega) (fun k r => (dHi_apply fac raw0 k r).trans (by rw [h0]; rfl)) dinb5
  · exact blockPiece_agrees fac D _ 1 1 (by omega) rfl (by omega) (fun k r => (dHi_apply fac raw0 k r).trans (by rw [h0]; rfl)) dinb1
  · exact blockPiece_agrees fac D _ 4 0 (by omega) rfl (by omega) (fun k r => (dLo_apply fac raw0 k r).trans (by rw [h0]; rfl)) dinb4
  · exact blockPiece_agrees fac D _ 0 0 (by omega) rfl (by omega) (fun k r => (dLo_apply fac raw0 k r).trans (by rw [h0]; rfl)) dinb0

/-- A read of the block-scale table after its eight writes. -/
theorem canon_blockPieces (old : List (View.Piece (Elt Ideal) S160x128 .f32)) (y : S160x128.Idx) (k : Fin 20) (e b : Nat) (he : e < 2) (hb : b < 4) (l : Fin 128)
    (hy0 : (y 0).val = 8 * k.val + 4 * e + b) (hy1 : (y 1).val = l.val) :
    (View.canon (blockPieces fac raw0 raw1 ++ old) y : EReal) = Cert.Half.decode ((D ⟨4 * l.val + b, by omega⟩ k).setWidth 32) * Ideal.ieee 8 23 fac := by
  rw [View.canon_append_of_pieces _ old _ (blockPieces_agree fac raw0 raw1 D h0 h1) y]
  · unfold blockVal
    have e : D ⟨4 * (y 1).val + (y 0).val % 4, (by have : (y 1).val < 128 := (y 1).isLt; omega)⟩ ⟨(y 0).val / 8, (by have : (y 0).val < 160 := (y 0).isLt; omega)⟩ = D ⟨4 * l.val + b, by omega⟩ k := by
      congr 1
      · exact Fin.ext (show 4 * (y 1).val + (y 0).val % 4 = 4 * l.val + b by omega)
      · exact Fin.ext (show (y 0).val / 8 = k.val by omega)
    rw [e]
  · have hm : ∀ (r : Rect S160x128) (x : r.shape.Idx), r.emb x = y → y ∈ r.set := by
      intro r x hx
      rw [← Rect.map_emb_univ, ← hx]
      exact Finset.mem_map_of_mem _ (Finset.mem_univ _)
    have fin : ∀ (o : Nat) (hi : ∀ a, S20x128.size a = 0 ∨ (![o, 0] : Fin 2 → Nat) a + (![8, 1] : Fin 2 → Nat) a * (S20x128.size a - 1) < S160x128.size a),
        o = 4 * e + b → y ∈ (⟨(⟨![o, 0], S20x128.size, ![8, 1], hi⟩ : LoadRect S160x128), pos81⟩ : Rect S160x128).set := by
      intro o hi ho
      refine hm _ (ix2 k l) ?_
      funext a
      fin_cases a
      · exact Fin.ext (show o + 8 * k.val = (y 0).val by omega)
      · exact Fin.ext (show 0 + 1 * l.val = (y 1).val by omega)
    have he' : e = 0 ∨ e = 1 := by omega
    have hb' : b = 0 ∨ b = 1 ∨ b = 2 ∨ b = 3 := by omega
    rcases he' with rfl | rfl <;> rcases hb' with rfl | rfl | rfl | rfl
    · exact ⟨_, List.mem_of_getElem? (i := 7) rfl, fin 0 dinb0 rfl⟩
    · exact ⟨_, List.mem_of_getElem? (i := 5) rfl, fin 1 dinb1 rfl⟩
    · exact ⟨_, List.mem_of_getElem? (i := 3) rfl, fin 2 dinb2 rfl⟩
    · exact ⟨_, List.mem_of_getElem? (i := 1) rfl, fin 3 dinb3 rfl⟩
    · exact ⟨_, List.mem_of_getElem? (i := 6) rfl, fin 4 dinb4 rfl⟩
    · exact ⟨_, List.mem_of_getElem? (i := 4) rfl, fin 5 dinb5 rfl⟩
    · exact ⟨_, List.mem_of_getElem? (i := 2) rfl, fin 6 dinb6 rfl⟩
    · exact ⟨_, List.mem_of_getElem? (i := 0) rfl, fin 7 dinb7 rfl⟩

end

end Cert.Words
-- ==== Proof.Parts.lean ====
module

public import proofs.«01_k».proof.Proof.Blocks
public import Idealize.ShloMosaic.Lib.MatmulPlain

@[expose] public section

noncomputable section

namespace Cert.Words

open Idealize.ShloMosaic Cert.Ring

abbrev S64x256 : Shape := ⟨2, ![64, 256]⟩
abbrev S256x256 : Shape := ⟨2, ![256, 256]⟩
abbrev S128x256 : Shape := ⟨2, ![128, 256]⟩
abbrev S64x1x128 : Shape := ⟨3, ![64, 1, 128]⟩
abbrev S64x2x128 : Shape := ⟨3, ![64, 2, 128]⟩

theorem b64 : S64x2x128.Bitcasts 16 S64x1x128 32 := by decide
theorem c64 : S64x1x128.ShapeCasts S64x128 := by decide
theorem b128 : S128x128.Bitcasts 16 S64x128 32 := by decide
theorem cc1 : Shape.Concatenates [S128x128, S128x128] S128x256 1 := by decide
theorem cc0 : Shape.Concatenates [S128x256, S128x256] S256x256 0 := by decide
theorem cx : S64x256.ShapeCasts S64x256 := by decide

/-- A loaded tile of row pairs as rows: row `2 r + i` is entry `i` of pair `r`. -/
def packTile (raw : Vec Ideal S64x2x128 .bf16) : FVec Ideal S128x128 .bf16 :=
  interleaveRows S128x128 (shapeCast S64x128 (rowsOfParity 0 S64x1x128 raw b64) c64) (shapeCast S64x128 (rowsOfParity 1 S64x1x128 raw b64) c64) b128

theorem packTile_apply (raw : Vec Ideal S64x2x128 .bf16) (k n : Fin 128) (r : Fin 64) (i : Fin 2) (h : k.val = 2 * r.val + i.val) :
    (packTile raw (ix2 k n) : EReal) = raw (ix3 r i n) := by
  unfold packTile
  have hi : i = 0 ∨ i = 1 := by omega
  obtain ⟨k, hk⟩ := k
  have h' : k = 2 * r.val + i.val := h
  subst h'
  rcases hi with rfl | rfl
  · pointwise [interleaveRows, rowsOfParity]
    rw [if_pos (by omega)]
    congr 1
    funext a
    fin_cases a
    · exact Fin.ext (show 2 * r.val / 2 = r.val by omega)
    · rfl
    · rfl
  · pointwise [interleaveRows, rowsOfParity]
    rw [if_neg (by omega)]
    congr 1
    funext a
    fin_cases a
    · exact Fin.ext (show (2 * r.val + 1) / 2 = r.val by omega)
    · rfl
    · rfl

/-- The four tiles of a chunk's weights side by side. -/
def weights (A B C D : Vec Ideal S64x2x128 .bf16) : FVec Ideal S256x256 .bf16 :=
  concatenate S256x256 0 [⟨S128x256, concatenate S128x256 1 [⟨S128x128, packTile A⟩, ⟨S128x128, packTile B⟩] cc1⟩,
    ⟨S128x256, concatenate S128x256 1 [⟨S128x128, packTile C⟩, ⟨S128x128, packTile D⟩] cc1⟩] cc0

theorem weights_apply (A B C D : Vec Ideal S64x2x128 .bf16) (e g : Fin 2) (k n : Fin 128) (r : Fin 64) (i : Fin 2) (h : k.val = 2 * r.val + i.val) :
    (weights A B C D (ix2 ⟨128 * e.val + k.val, by omega⟩ ⟨128 * g.val + n.val, by omega⟩) : EReal)
      = (if e.val = 0 then (if g.val = 0 then A else B) else (if g.val = 0 then C else D)) (ix3 r i n) := by
  unfold weights
  have he : e = 0 ∨ e = 1 := by omega
  have hg : g = 0 ∨ g = 1 := by omega
  rcases he with rfl | rfl <;> rcases hg with rfl | rfl
  · refine Eq.trans ?_ (packTile_apply A k n r i h); pointwise
  · refine Eq.trans ?_ (packTile_apply B k n r i h); pointwise
  · refine Eq.trans ?_ (packTile_apply C k n r i h); pointwise
  · refine Eq.trans ?_ (packTile_apply D k n r i h); pointwise

/-- The product of a chunk's 256 columns of `x` with its weights. -/
def part (x : Vec Ideal S64x256 .bf16) (A B C D : Vec Ideal S64x2x128 .bf16) : FVec Ideal S64x256 .f32 :=
  matmul (DotDims.plain 64 256 256) none (φ₁ := .bf16) (φ₂ := .bf16) (shapeCast S64x256 x cx) (weights A B C D) (constant S64x256 .f32 0x00000000#32)

theorem part_apply (x : Vec Ideal S64x256 .bf16) (A B C D : Vec Ideal S64x2x128 .bf16) (m : Fin 64) (n : Fin 256) :
    (part x A B C D (ix2 m n) : EReal) = ∑ k : Fin 256, (x (ix2 m k) : EReal) * weights A B C D (ix2 k n) := by
  unfold part
  refine (Ideal.matmul_plain_apply none _ _ _ m n).trans ?_
  have h0 : (constant (F := Ideal) S64x256 .f32 0x00000000#32 (ix2 m n) : EReal) = 0 := Ideal.ofBits_zero_f32
  have hx : ∀ k : Fin 256, (shapeCast S64x256 x cx (ix2 m k) : EReal) = x (ix2 m k) := fun k => by pointwise
  refine (congrArg₂ (fun a b : EReal => a + b) h0 (Finset.sum_congr rfl fun k _ => congrArg (fun a : EReal => a * _) (hx k))).trans ?_
  exact zero_add _

theorem inbR8 (c : Nat) (h : c < 20) : ∀ a, (![8 * c, 0] : Fin 2 → Nat) a + S8x128.size a ≤ S160x128.size a := by
  intro a; fin_cases a <;> simp <;> omega
theorem inbR2 (k : Nat) (h : k < 156) : ∀ a, S2x128.size a = 0 ∨ (![k, 0] : Fin 2 → Nat) a + (![4, 1] : Fin 2 → Nat) a * (S2x128.size a - 1) < S160x128.size a := by
  intro a; right; fin_cases a <;> simp <;> omega
theorem inbR64 (k : Nat) (h : k < 481) : ∀ a, (![k, 0, 0] : Fin 3 → Nat) a + S64x2x128.size a ≤ S544x2x128.size a := by
  intro a; fin_cases a <;> simp <;> omega
theorem inbW (k : Nat) (h : k < 65) : ∀ a, (![k, 0] : Fin 2 → Nat) a + S64x128.size a ≤ S128x128.size a := by
  intro a; fin_cases a <;> simp <;> omega

/-- The eight block-scale rows of chunk `c`. -/
def rect8 (c : Nat) (h : c < 20) : LoadRect S160x128 := (Rect.unit (s := S160x128) ![8 * c, 0] S8x128.size (inbR8 c h)).toLoadRect
/-- Two rows of byte-scale words, four apart. -/
def rect2 (k : Nat) (h : k < 156) : LoadRect S160x128 := { off := ![k, 0], size := S2x128.size, stride := ![4, 1], inb := inbR2 k h }
/-- Sixty-four row pairs of the ring. -/
def rect64 (k : Nat) (h : k < 481) : LoadRect S544x2x128 := (Rect.unit (s := S544x2x128) ![k, 0, 0] S64x2x128.size (inbR64 k h)).toLoadRect
/-- Sixty-four rows of code words. -/
def rectW (k : Nat) (h : k < 65) : LoadRect S128x128 := (Rect.unit (s := S128x128) ![k, 0] S64x128.size (inbW k h)).toLoadRect

end Cert.Words
-- ==== Proof.Chunk.lean ====
module

public import proofs.«01_k».proof.Proof.Parts

@[expose] public section

noncomputable section

namespace Cert.Words

open Idealize.ShloMosaic Cert.Ring

/-- What a table of block scales holds. -/
def HoldsBlocks (dL : List (View.Piece (Elt Ideal) S160x128 .f32)) (Dv : Fin 512 → Fin 20 → EReal) : Prop :=
  ∀ (y : S160x128.Idx) (k : Fin 20) (e b : Nat) (_ : e < 2) (hb : b < 4) (l : Fin 128), (y 0).val = 8 * k.val + 4 * e + b → (y 1).val = l.val →
    (View.canon dL y : EReal) = Dv ⟨4 * l.val + b, by omega⟩ k

/-- What a table of byte scales holds. -/
def HoldsBytes (sL : List (View.Piece (Elt Ideal) S160x128 .i32)) (SC : Fin 512 → Fin 160 → BitVec 8) : Prop :=
  ∀ (y : S160x128.Idx) (k : Fin 160) (l : Fin 128), (y 0).val = k.val → (y 1).val = l.val → ∀ (b : Nat) (hb : b < 4),
    byteOf (View.canon sL y) b = SC ⟨4 * l.val + b, by omega⟩ k

/-- What a buffer of code words holds. -/
def HoldsWords (wL : List (View.Piece (Elt Ideal) S128x128 .i32)) (Q : Fin 512 → Fin 128 → BitVec 8) : Prop :=
  ∀ (y : S128x128.Idx) (p j e : Nat) (_ : p < 2) (_ : j < 32) (_ : e < 2) (l : Fin 128), (y 0).val = 64 * p + e + 2 * j → (y 1).val = l.val →
    ∀ (b : Nat) (hb : b < 4), byteOf (View.canon wL y) b = Q ⟨4 * l.val + b, by omega⟩ ⟨64 * e + 32 * p + j, by omega⟩

section
variable {sig : RefSig} {κ : Kind} {sp : Space}
variable (V9 V10 : View sig κ sp S160x128 .i32) (V11 V12 : View sig κ sp S160x128 .f32) (V13 : View sig κ sp S128x128 .i32) (V17 : View sig κ sp S544x2x128 .bf16)
variable (sL nL : List (View.Piece (Elt Ideal) S160x128 .i32)) (dL mL : List (View.Piece (Elt Ideal) S160x128 .f32)) (wL : List (View.Piece (Elt Ideal) S128x128 .i32))
/-- Sixty-four row pairs read from the ring. -/
def tile (V17 : View sig κ sp S544x2x128 .bf16) (ring : List PieceR) (k : Nat) (h : k < 481) : Vec Ideal S64x2x128 .bf16 := V17.readCov ring (rect64 k h)

/-- The product of a chunk of `x` with two of the four groups of 128 columns read from the ring. -/
def chunkPart (V17 : View sig κ sp S544x2x128 .bf16) (x : Vec Ideal S64x256 .bf16) (ring : List PieceR) (bp : Fin 2) : FVec Ideal S64x256 .f32 :=
  part x (tile V17 ring (68 * (2 * bp.val)) (by omega)) (tile V17 ring (68 * (2 * bp.val + 1)) (by omega))
    (tile V17 ring (68 * (2 * bp.val + 4)) (by omega)) (tile V17 ring (68 * (2 * bp.val + 5)) (by omega))

/-- Eight rows of scales: byte scales `8 c + q` and `8 c + 4 + q` times the block scales of chunk `c`. -/
def scales (V9 : View sig κ sp S160x128 .i32) (V11 : View sig κ sp S160x128 .f32) (sL : List (View.Piece (Elt Ideal) S160x128 .i32))
    (dL : List (View.Piece (Elt Ideal) S160x128 .f32)) (c : Nat) (hc : c < 20) (q : Fin 4) : FVec Ideal S8x128 .f32 :=
  scaleRow (V11.readCov dL (rect8 c hc)) (V9.readCov sL (rect2 (8 * c + q.val) (by omega)))

/-- The code words of half `p` of a chunk. -/
def halfWords (V13 : View sig κ sp S128x128 .i32) (wL : List (View.Piece (Elt Ideal) S128x128 .i32)) (p : Fin 2) : Vec Ideal S64x128 .i32 :=
  V13.readCov wL (rectW (64 * p.val) (by omega))

variable (Dv Mv : Fin 512 → Fin 20 → EReal) (SC MN : Fin 512 → Fin 160 → BitVec 8) (Q : Fin 512 → Fin 128 → BitVec 8)

theorem scales_apply (c : Nat) (hc : c < 20) (hD : HoldsBlocks dL Dv) (hS : HoldsBytes sL SC) (q : Fin 4) (a : Fin 8) (e b : Nat) (he : e < 2) (hb : b < 4) (ha : a.val = 4 * e + b) (l : Fin 128) :
    (scales V9 V11 sL dL c hc q (ix2 a l) : EReal)
      = (((SC ⟨4 * l.val + b, by omega⟩ ⟨8 * c + 4 * e + q.val, by omega⟩).toNat : ℝ) : EReal) * Dv ⟨4 * l.val + b, by omega⟩ ⟨c, hc⟩ := by
  unfold scales
  refine (scaleRow_apply _ _ a l ⟨e, he⟩ b hb ha).trans ?_
  have h1 := hD ((rect8 c hc).idx (ix2 a l)) ⟨c, hc⟩ e b he hb l (show 8 * c + 1 * a.val = 8 * c + 4 * e + b by omega) (show 0 + 1 * l.val = l.val by omega)
  have h2 := hS ((rect2 (8 * c + q.val) (by omega)).idx (ix2 (⟨e, he⟩ : Fin 2) l)) ⟨8 * c + 4 * e + q.val, by omega⟩ l
    (show 8 * c + q.val + 4 * e = 8 * c + 4 * e + q.val by omega) (show 0 + 1 * l.val = l.val by omega) b hb
  have r1 := congrFun (View.readCov_eq_canon' V11 dL (rect8 c hc)) (ix2 a l)
  have r2 := congrFun (View.readCov_eq_canon' V9 sL (rect2 (8 * c + q.val) (by omega))) (ix2 (⟨e, he⟩ : Fin 2) l)
  exact congrArg₂ (fun (u : BitVec 8) (v : EReal) => ((u.toNat : ℝ) : EReal) * v) ((congrArg (fun w => byteOf w b) r2).trans h2) (r1.trans h1)

theorem halfWords_byte (hW : HoldsWords wL Q) (p : Fin 2) (a : Fin 64) (j e b : Nat) (hj : j < 32) (he : e < 2) (hb : b < 4) (ha : a.val = e + 2 * j) (l : Fin 128) :
    byteOf (halfWords V13 wL p (ix2 a l)) b = Q ⟨4 * l.val + b, by omega⟩ ⟨64 * e + 32 * p.val + j, by omega⟩ := by
  unfold halfWords
  refine (congrArg (fun w => byteOf w b) (congrFun (View.readCov_eq_canon' V13 wL (rectW (64 * p.val) (by omega))) (ix2 a l))).trans ?_
  exact hW ((rectW (64 * p.val) (by omega)).idx (ix2 a l)) p.val j e p.isLt hj he l (show 64 * p.val + 1 * a.val = 64 * p.val + e + 2 * j by omega)
    (show 0 + 1 * l.val = l.val by omega) b hb

variable (c : Nat) (hc : c < 20)

/-- The sixty-four writes of chunk `c` into its ring, over what the ring held. -/
def ringPieces (old : List PieceR) : List PieceR :=
  pieces (scales V9 V11 sL dL c hc 0) (scales V9 V11 sL dL c hc 1) (scales V9 V11 sL dL c hc 2) (scales V9 V11 sL dL c hc 3)
    (scales V10 V12 nL mL c hc 0) (scales V10 V12 nL mL c hc 1) (scales V10 V12 nL mL c hc 2) (scales V10 V12 nL mL c hc 3)
    (codesLo (halfWords V13 wL 0)) (codesHi (halfWords V13 wL 0)) (codesLo (halfWords V13 wL 1)) (codesHi (halfWords V13 wL 1)) ++ old

/-- One weight: a code times its scale minus its offset. -/
def weight (R : Fin 512) (k : Fin 256) : EReal :=
  (((nib (k.val / 32 % 2) (Q R ⟨32 * (k.val / 64) + k.val % 32, by omega⟩) : ℝ) / 512 : ℝ) : EReal)
      * ((((SC R ⟨8 * c + k.val / 32, by omega⟩).toNat : ℝ) : EReal) * Dv R ⟨c, hc⟩)
    - (((MN R ⟨8 * c + k.val / 32, by omega⟩).toNat : ℝ) : EReal) * Mv R ⟨c, hc⟩

variable (hD : HoldsBlocks dL Dv) (hM : HoldsBlocks mL Mv) (hS : HoldsBytes sL SC) (hN : HoldsBytes nL MN) (hW : HoldsWords wL Q)
include hD hM hS hN hW

theorem ring_value (old : List PieceR) (y : S544x2x128.Idx) (b : Nat) (hb : b < 4) (l : Fin 128) (k : Fin 256)
    (h0 : (y 0).val = 68 * (4 * (k.val / 128) + b) + k.val % 128 / 2) (h1 : (y 1).val = k.val % 2) (h2 : (y 2).val = l.val) :
    (View.canon (ringPieces V9 V10 V11 V12 V13 sL nL dL mL wL c hc old) y : EReal) = weight Dv Mv SC MN Q c hc ⟨4 * l.val + b, by omega⟩ k := by
  unfold ringPieces
  rw [canon_pieces _ _ _ _ _ _ _ _ _ _ _ _ old y (4 * (k.val / 128) + b) (k.val % 128 / 2) (by omega) (by omega) (k.val % 2) (by omega) l (by omega) h1 h2]
  have hs : ∀ q : Fin 4, q.val = k.val % 128 / 32 → _ := fun q hq => scales_apply V9 V11 sL dL Dv SC c hc hD hS q ⟨4 * (k.val / 128) + b, by omega⟩ (k.val / 128) b (by omega) hb rfl l
  have ho : ∀ q : Fin 4, q.val = k.val % 128 / 32 → _ := fun q hq => scales_apply V10 V12 nL mL Mv MN c hc hM hN q ⟨4 * (k.val / 128) + b, by omega⟩ (k.val / 128) b (by omega) hb rfl l
  have hw : ∀ p : Fin 2, _ := fun p => halfWords_byte V13 wL Q hW p ⟨k.val / 128 + 2 * (k.val % 32), by omega⟩ (k.val % 32) (k.val / 128) b (by omega) (by omega) hb rfl l
  have hP : 16 * (k.val % 128 / 2 % 16) + 8 * (k.val % 2) + (4 * (k.val / 128) + b) = 4 * (k.val / 128 + 2 * (k.val % 32)) + b := by omega
  have hlo : ∀ w, _ := fun w => codesLo_apply w ⟨16 * (k.val % 128 / 2 % 16) + 8 * (k.val % 2) + (4 * (k.val / 128) + b), by omega⟩ l ⟨k.val / 128 + 2 * (k.val % 32), by omega⟩ b hb hP
  have hhi : ∀ w, _ := fun w => codesHi_apply w ⟨16 * (k.val % 128 / 2 % 16) + 8 * (k.val % 2) + (4 * (k.val / 128) + b), by omega⟩ l ⟨k.val / 128 + 2 * (k.val % 32), by omega⟩ b hb hP
  have fin : ∀ (q : Fin 4) (p : Fin 2) (h : Nat), q.val = k.val % 128 / 32 → q.val = 2 * p.val + h → h < 2 →
      (((nib h (byteOf (halfWords V13 wL p (ix2 ⟨k.val / 128 + 2 * (k.val % 32), by omega⟩ l)) b) : ℝ) / 512 : ℝ) : EReal)
        * scales V9 V11 sL dL c hc q (ix2 ⟨4 * (k.val / 128) + b, by omega⟩ l) - scales V10 V12 nL mL c hc q (ix2 ⟨4 * (k.val / 128) + b, by omega⟩ l)
      = weight Dv Mv SC MN Q c hc ⟨4 * l.val + b, by omega⟩ k := by
    intro q p h hq hqp hh
    rw [hs q hq, ho q hq, hw p]
    unfold weight
    have e1 : (⟨8 * c + 4 * (k.val / 128) + q.val, by omega⟩ : Fin 160) = ⟨8 * c + k.val / 32, by omega⟩ := Fin.ext (by show 8 * c + 4 * (k.val / 128) + q.val = 8 * c + k.val / 32; omega)
    have e2 : (⟨64 * (k.val / 128) + 32 * p.val + k.val % 32, by omega⟩ : Fin 128) = ⟨32 * (k.val / 64) + k.val % 32, by omega⟩ := Fin.ext (by show 64 * (k.val / 128) + 32 * p.val + k.val % 32 = 32 * (k.val / 64) + k.val % 32; omega)
    have e3 : k.val / 32 % 2 = h := by omega
    rw [e1, e2, e3]
  have hq4 : k.val % 128 / 2 / 16 = 0 ∨ k.val % 128 / 2 / 16 = 1 ∨ k.val % 128 / 2 / 16 = 2 ∨ k.val % 128 / 2 / 16 = 3 := by omega
  unfold planeVal
  rcases hq4 with h | h | h | h <;> rw [h]
  · exact (congrArg₂ (fun u v : EReal => u * _ - v) (hlo (halfWords V13 wL 0)) rfl).trans (fin 0 0 0 (show 0 = _ by omega) rfl (by omega))
  · exact (congrArg₂ (fun u v : EReal => u * _ - v) (hhi (halfWords V13 wL 0)) rfl).trans (fin 1 0 1 (show 1 = _ by omega) rfl (by omega))
  · exact (congrArg₂ (fun u v : EReal => u * _ - v) (hlo (halfWords V13 wL 1)) rfl).trans (fin 2 1 0 (show 2 = _ by omega) rfl (by omega))
  · exact (congrArg₂ (fun u v : EReal => u * _ - v) (hhi (halfWords V13 wL 1)) rfl).trans (fin 3 1 1 (show 3 = _ by omega) rfl (by omega))

/-- The product of one chunk, as a sum of products with the weights. -/
theorem chunkPart_apply (old : List PieceR) (x : Vec Ideal S64x256 .bf16) (bp g : Fin 2) (m : Fin 64) (n : Fin 128) :
    (chunkPart V17 x (ringPieces V9 V10 V11 V12 V13 sL nL dL mL wL c hc old) bp (ix2 m ⟨128 * g.val + n.val, by omega⟩) : EReal)
      = ∑ k : Fin 256, (x (ix2 m k) : EReal) * weight Dv Mv SC MN Q c hc ⟨4 * n.val + (2 * bp.val + g.val), by omega⟩ k := by
  unfold chunkPart
  rw [part_apply]
  refine Finset.sum_congr rfl fun k _ => congrArg (fun u : EReal => (x (ix2 m k) : EReal) * u) ?_
  have hk : k = ⟨128 * (⟨k.val / 128, by omega⟩ : Fin 2).val + (⟨k.val % 128, by omega⟩ : Fin 128).val, by simp only []; omega⟩ :=
    Fin.ext (show k.val = 128 * (k.val / 128) + k.val % 128 by omega)
  have hwt := weights_apply (tile V17 (ringPieces V9 V10 V11 V12 V13 sL nL dL mL wL c hc old) (68 * (2 * bp.val)) (by omega))
    (tile V17 (ringPieces V9 V10 V11 V12 V13 sL nL dL mL wL c hc old) (68 * (2 * bp.val + 1)) (by omega))
    (tile V17 (ringPieces V9 V10 V11 V12 V13 sL nL dL mL wL c hc old) (68 * (2 * bp.val + 4)) (by omega))
    (tile V17 (ringPieces V9 V10 V11 V12 V13 sL nL dL mL wL c hc old) (68 * (2 * bp.val + 5)) (by omega))
    ⟨k.val / 128, by omega⟩ g ⟨k.val % 128, by omega⟩ n ⟨k.val % 128 / 2, by omega⟩ ⟨k.val % 2, by omega⟩ (show k.val % 128 = 2 * (k.val % 128 / 2) + k.val % 2 by omega)
  rw [← hk] at hwt
  rw [hwt]
  have rd : ∀ (o : Nat) (ho : o < 481), o = 68 * (4 * (k.val / 128) + (2 * bp.val + g.val)) →
      (tile V17 (ringPieces V9 V10 V11 V12 V13 sL nL dL mL wL c hc old) o ho (ix3 (⟨k.val % 128 / 2, by omega⟩ : Fin 64) (⟨k.val % 2, by omega⟩ : Fin 2) n) : EReal)
        = weight Dv Mv SC MN Q c hc ⟨4 * n.val + (2 * bp.val + g.val), by omega⟩ k := by
    intro o ho hoe
    unfold tile
    refine (congrFun (View.readCov_eq_canon' V17 _ (rect64 o ho)) _).trans ?_
    exact ring_value V9 V10 V11 V12 V13 sL nL dL mL wL Dv Mv SC MN Q c hc hD hM hS hN hW old _ (2 * bp.val + g.val) (by omega) n k
      (show o + 1 * (k.val % 128 / 2) = _ by omega) (show 0 + 1 * (k.val % 2) = k.val % 2 by omega) (show 0 + 1 * n.val = n.val by omega)
  have hg : g.val = 0 ∨ g.val = 1 := by omega
  have he : k.val / 128 = 0 ∨ k.val / 128 = 1 := by omega
  rcases he with he | he <;> rcases hg with hg | hg
  · rw [if_pos he, if_pos hg]; exact rd _ _ (by omega)
  · rw [if_pos he, if_neg (by omega)]; exact rd _ _ (by omega)
  · rw [if_neg (show ¬ k.val / 128 = 0 by omega), if_pos hg]; exact rd _ _ (by omega)
  · rw [if_neg (show ¬ k.val / 128 = 0 by omega), if_neg (by omega)]; exact rd _ _ (by omega)

end

end Cert.Words
-- ==== Proof.Env.lean ====
module

public import proofs.«01_k».proof.Proof.Chunk
public import proofs.«01_k».proof.Proof.Gen.KernelIdeal.Frame.RunA

/-! The buffers and argument blocks of one grid point, and short names for what the run of the body at that point
finds: the tables, the code words, the rings and the accumulators of its forty chunks. -/

@[expose] public section

noncomputable section

namespace Cert.Tiles

open Idealize.ShloMosaic Cert.KernelIdeal Cert.KernelIdeal.Gen

/-- The buffers of one grid point and the blocks of the arguments that they hold. -/
structure Env where
  c : Dev nD
  i : grid0.Coords
  a1 : Memref sig .tc .vmem S64x5120 .bf16
  h1 : a1.IsWhole
  a2 : Memref sig .tc .vmem S1024x2560 .i8
  h2 : a2.IsWhole
  a3 : Memref sig .tc .vmem S1024x20 .i16
  h3 : a3.IsWhole
  a4 : Memref sig .tc .vmem S1024x20 .i16
  h4 : a4.IsWhole
  a5 : Memref sig .tc .vmem S1024x160 .i8
  h5 : a5.IsWhole
  a6 : Memref sig .tc .vmem S1024x160 .i8
  h6 : a6.IsWhole
  a7 : Memref sig .tc .vmem S512x512 .bf16
  h7 : a7.IsWhole
  a8 : Memref sig .tc .vmem S64x1024 .bf16
  h8 : a8.IsWhole
  a9 : Memref sig .tc .vmem S160x128 .i32
  h9 : a9.IsWhole
  a10 : Memref sig .tc .vmem S160x128 .i32
  h10 : a10.IsWhole
  a11 : Memref sig .tc .vmem S160x128 .f32
  h11 : a11.IsWhole
  a12 : Memref sig .tc .vmem S160x128 .f32
  h12 : a12.IsWhole
  a13 : Memref sig .tc .vmem S128x128 .i32
  h13 : a13.IsWhole
  a14 : Memref sig .tc .vmem S128x128 .i32
  h14 : a14.IsWhole
  a15 : Memref sig .tc .vmem S128x128 .i32
  h15 : a15.IsWhole
  a16 : Memref sig .tc .vmem S128x128 .i32
  h16 : a16.IsWhole
  a17 : Memref sig .tc .vmem S544x2x128 .bf16
  h17 : a17.IsWhole
  a18 : Memref sig .tc .vmem S544x2x128 .bf16
  h18 : a18.IsWhole
  a19 : Memref sig .tc .vmem S544x2x128 .bf16
  h19 : a19.IsWhole
  a20 : Memref sig .tc .vmem S544x2x128 .bf16
  h20 : a20.IsWhole
  x0 : Vec Ideal S64x5120 .bf16
  x1 : Vec Ideal S1024x2560 .i8
  x2 : Vec Ideal S1024x20 .i16
  x3 : Vec Ideal S1024x20 .i16
  x4 : Vec Ideal S1024x160 .i8
  x5 : Vec Ideal S1024x160 .i8
  x6 : Vec Ideal S512x512 .bf16

variable (V : Env)

def dL0 := kernelRun0_A.sl.HS2_8 (F := Ideal) V.c V.a3 V.h3 V.x2
def mL0 := kernelRun0_A.sl.HS3_8 (F := Ideal) V.c V.a4 V.h4 V.x3
def sL0 := kernelRun0_A.sl.HS0_2 (F := Ideal) V.c V.a5 V.h5 V.x4
def nL0 := kernelRun0_A.sl.HS1_2 (F := Ideal) V.c V.a6 V.h6 V.x5
def dL1 := kernelRun0_A.sl.HS2_16 (F := Ideal) V.c V.a3 V.h3 V.x2
def mL1 := kernelRun0_A.sl.HS3_16 (F := Ideal) V.c V.a4 V.h4 V.x3
def sL1 := kernelRun0_A.sl.HS0_4 (F := Ideal) V.c V.a5 V.h5 V.x4
def nL1 := kernelRun0_A.sl.HS1_4 (F := Ideal) V.c V.a6 V.h6 V.x5
def ring0 := kernelRun0_A.sl.HS8_64 (F := Ideal) V.c V.a2 V.h2 V.a3 V.h3 V.a4 V.h4 V.a5 V.h5 V.a6 V.h6 V.a9 V.a10 V.a11 V.a12 V.a13 V.x1 V.x2 V.x3 V.x4 V.x5
def words0 := kernelRun0_A.sl.HS4_4 (F := Ideal) V.c V.a2 V.h2 V.x1
def ring1 := kernelRun0_A.sl.HS9_64 (F := Ideal) V.c V.a2 V.h2 V.a3 V.h3 V.a4 V.h4 V.a5 V.h5 V.a6 V.h6 V.a9 V.a10 V.a11 V.a12 V.a14 V.x1 V.x2 V.x3 V.x4 V.x5
def words1 := kernelRun0_A.sl.HS5_4 (F := Ideal) V.c V.a2 V.h2 V.x1
def ring2 := kernelRun0_A.sl.HS10_64 (F := Ideal) V.c V.a2 V.h2 V.a3 V.h3 V.a4 V.h4 V.a5 V.h5 V.a6 V.h6 V.a9 V.a10 V.a11 V.a12 V.a15 V.x1 V.x2 V.x3 V.x4 V.x5
def words2 := kernelRun0_A.sl.HS6_4 (F := Ideal) V.c V.a2 V.h2 V.x1
def ring3 := kernelRun0_A.sl.HS11_64 (F := Ideal) V.c V.a2 V.h2 V.a3 V.h3 V.a4 V.h4 V.a5 V.h5 V.a6 V.h6 V.a9 V.a10 V.a11 V.a12 V.a16 V.x1 V.x2 V.x3 V.x4 V.x5
def words3 := kernelRun0_A.sl.HS7_4 (F := Ideal) V.c V.a2 V.h2 V.x1
def ring4 := kernelRun0_A.sl.HS8_128 (F := Ideal) V.c V.a2 V.h2 V.a3 V.h3 V.a4 V.h4 V.a5 V.h5 V.a6 V.h6 V.a9 V.a10 V.a11 V.a12 V.a13 V.x1 V.x2 V.x3 V.x4 V.x5
def words4 := kernelRun0_A.sl.HS4_8 (F := Ideal) V.c V.a2 V.h2 V.x1
def ring5 := kernelRun0_A.sl.HS9_128 (F := Ideal) V.c V.a2 V.h2 V.a3 V.h3 V.a4 V.h4 V.a5 V.h5 V.a6 V.h6 V.a9 V.a10 V.a11 V.a12 V.a14 V.x1 V.x2 V.x3 V.x4 V.x5
def words5 := kernelRun0_A.sl.HS5_8 (F := Ideal) V.c V.a2 V.h2 V.x1
def ring6 := kernelRun0_A.sl.HS10_128 (F := Ideal) V.c V.a2 V.h2 V.a3 V.h3 V.a4 V.h4 V.a5 V.h5 V.a6 V.h6 V.a9 V.a10 V.a11 V.a12 V.a15 V.x1 V.x2 V.x3 V.x4 V.x5
def words6 := kernelRun0_A.sl.HS6_8 (F := Ideal) V.c V.a2 V.h2 V.x1
def ring7 := kernelRun0_A.sl.HS11_128 (F := Ideal) V.c V.a2 V.h2 V.a3 V.h3 V.a4 V.h4 V.a5 V.h5 V.a6 V.h6 V.a9 V.a10 V.a11 V.a12 V.a16 V.x1 V.x2 V.x3 V.x4 V.x5
def words7 := kernelRun0_A.sl.HS7_8 (F := Ideal) V.c V.a2 V.h2 V.x1
def ring8 := kernelRun0_A.sl.HS8_192 (F := Ideal) V.c V.a2 V.h2 V.a3 V.h3 V.a4 V.h4 V.a5 V.h5 V.a6 V.h6 V.a9 V.a10 V.a11 V.a12 V.a13 V.x1 V.x2 V.x3 V.x4 V.x5
def words8 := kernelRun0_A.sl.HS4_12 (F := Ideal) V.c V.a2 V.h2 V.x1
def ring9 := kernelRun0_A.sl.HS9_192 (F := Ideal) V.c V.a2 V.h2 V.a3 V.h3 V.a4 V.h4 V.a5 V.h5 V.a6 V.h6 V.a9 V.a10 V.a11 V.a12 V.a14 V.x1 V.x2 V.x3 V.x4 V.x5
def words9 := kernelRun0_A.sl.HS5_12 (F := Ideal) V.c V.a2 V.h2 V.x1
def ring10 := kernelRun0_A.sl.HS10_192 (F := Ideal) V.c V.a2 V.h2 V.a3 V.h3 V.a4 V.h4 V.a5 V.h5 V.a6 V.h6 V.a9 V.a10 V.a11 V.a12 V.a15 V.x1 V.x2 V.x3 V.x4 V.x5
def words10 := kernelRun0_A.sl.HS6_12 (F := Ideal) V.c V.a2 V.h2 V.x1
def ring11 := kernelRun0_A.sl.HS11_192 (F := Ideal) V.c V.a2 V.h2 V.a3 V.h3 V.a4 V.h4 V.a5 V.h5 V.a6 V.h6 V.a9 V.a10 V.a11 V.a12 V.a16 V.x1 V.x2 V.x3 V.x4 V.x5
def words11 := kernelRun0_A.sl.HS7_12 (F := Ideal) V.c V.a2 V.h2 V.x1
def ring12 := kernelRun0_A.sl.HS8_256 (F := Ideal) V.c V.a2 V.h2 V.a3 V.h3 V.a4 V.h4 V.a5 V.h5 V.a6 V.h6 V.a9 V.a10 V.a11 V.a12 V.a13 V.x1 V.x2 V.x3 V.x4 V.x5
def words12 := kernelRun0_A.sl.HS4_16 (F := Ideal) V.c V.a2 V.h2 V.x1
def ring13 := kernelRun0_A.sl.HS9_256 (F := Ideal) V.c V.a2 V.h2 V.a3 V.h3 V.a4 V.h4 V.a5 V.h5 V.a6 V.h6 V.a9 V.a10 V.a11 V.a12 V.a14 V.x1 V.x2 V.x3 V.x4 V.x5
def words13 := kernelRun0_A.sl.HS5_16 (F := Ideal) V.c V.a2 V.h2 V.x1
def ring14 := kernelRun0_A.sl.HS10_256 (F := Ideal) V.c V.a2 V.h2 V.a3 V.h3 V.a4 V.h4 V.a5 V.h5 V.a6 V.h6 V.a9 V.a10 V.a11 V.a12 V.a15 V.x1 V.x2 V.x3 V.x4 V.x5
def words14 := kernelRun0_A.sl.HS6_16 (F := Ideal) V.c V.a2 V.h2 V.x1
def ring15 := kernelRun0_A.sl.HS11_256 (F := Ideal) V.c V.a2 V.h2 V.a3 V.h3 V.a4 V.h4 V.a5 V.h5 V.a6 V.h6 V.a9 V.a10 V.a11 V.a12 V.a16 V.x1 V.x2 V.x3 V.x4 V.x5
def words15 := kernelRun0_A.sl.HS7_16 (F := Ideal) V.c V.a2 V.h2 V.x1
def ring16 := kernelRun0_A.sl.HS8_320 (F := Ideal) V.c V.a2 V.h2 V.a3 V.h3 V.a4 V.h4 V.a5 V.h5 V.a6 V.h6 V.a9 V.a10 V.a11 V.a12 V.a13 V.x1 V.x2 V.x3 V.x4 V.x5
def words16 := kernelRun0_A.sl.HS4_20 (F := Ideal) V.c V.a2 V.h2 V.x1
def ring17 := kernelRun0_A.sl.HS9_320 (F := Ideal) V.c V.a2 V.h2 V.a3 V.h3 V.a4 V.h4 V.a5 V.h5 V.a6 V.h6 V.a9 V.a10 V.a11 V.a12 V.a14 V.x1 V.x2 V.x3 V.x4 V.x5
def words17 := kernelRun0_A.sl.HS5_20 (F := Ideal) V.c V.a2 V.h2 V.x1
def ring18 := kernelRun0_A.sl.HS10_320 (F := Ideal) V.c V.a2 V.h2 V.a3 V.h3 V.a4 V.h4 V.a5 V.h5 V.a6 V.h6 V.a9 V.a10 V.a11 V.a12 V.a15 V.x1 V.x2 V.x3 V.x4 V.x5
def words18 := kernelRun0_A.sl.HS6_20 (F := Ideal) V.c V.a2 V.h2 V.x1
def ring19 := kernelRun0_A.sl.HS11_320 (F := Ideal) V.c V.a2 V.h2 V.a3 V.h3 V.a4 V.h4 V.a5 V.h5 V.a6 V.h6 V.a9 V.a10 V.a11 V.a12 V.a16 V.x1 V.x2 V.x3 V.x4 V.x5
def words19 := kernelRun0_A.sl.HS7_20 (F := Ideal) V.c V.a2 V.h2 V.x1
def ring20 := kernelRun0_A.sl.HS8_384 (F := Ideal) V.c V.a2 V.h2 V.a3 V.h3 V.a4 V.h4 V.a5 V.h5 V.a6 V.h6 V.a9 V.a10 V.a11 V.a12 V.a13 V.x1 V.x2 V.x3 V.x4 V.x5
def words20 := kernelRun0_A.sl.HS4_24 (F := Ideal) V.c V.a2 V.h2 V.x1
def ring21 := kernelRun0_A.sl.HS9_384 (F := Ideal) V.c V.a2 V.h2 V.a3 V.h3 V.a4 V.h4 V.a5 V.h5 V.a6 V.h6 V.a9 V.a10 V.a11 V.a12 V.a14 V.x1 V.x2 V.x3 V.x4 V.x5
def words21 := kernelRun0_A.sl.HS5_24 (F := Ideal) V.c V.a2 V.h2 V.x1
def ring22 := kernelRun0_A.sl.HS10_384 (F := Ideal) V.c V.a2 V.h2 V.a3 V.h3 V.a4 V.h4 V.a5 V.h5 V.a6 V.h6 V.a9 V.a10 V.a11 V.a12 V.a15 V.x1 V.x2 V.x3 V.x4 V.x5
def words22 := kernelRun0_A.sl.HS6_24 (F := Ideal) V.c V.a2 V.h2 V.x1
def ring23 := kernelRun0_A.sl.HS11_384 (F := Ideal) V.c V.a2 V.h2 V.a3 V.h3 V.a4 V.h4 V.a5 V.h5 V.a6 V.h6 V.a9 V.a10 V.a11 V.a12 V.a16 V.x1 V.x2 V.x3 V.x4 V.x5
def words23 := kernelRun0_A.sl.HS7_24 (F := Ideal) V.c V.a2 V.h2 V.x1
def ring24 := kernelRun0_A.sl.HS8_448 (F := Ideal) V.c V.a2 V.h2 V.a3 V.h3 V.a4 V.h4 V.a5 V.h5 V.a6 V.h6 V.a9 V.a10 V.a11 V.a12 V.a13 V.x1 V.x2 V.x3 V.x4 V.x5
def words24 := kernelRun0_A.sl.HS4_28 (F := Ideal) V.c V.a2 V.h2 V.x1
def ring25 := kernelRun0_A.sl.HS9_448 (F := Ideal) V.c V.a2 V.h2 V.a3 V.h3 V.a4 V.h4 V.a5 V.h5 V.a6 V.h6 V.a9 V.a10 V.a11 V.a12 V.a14 V.x1 V.x2 V.x3 V.x4 V.x5
def words25 := kernelRun0_A.sl.HS5_28 (F := Ideal) V.c V.a2 V.h2 V.x1
def ring26 := kernelRun0_A.sl.HS10_448 (F := Ideal) V.c V.a2 V.h2 V.a3 V.h3 V.a4 V.h4 V.a5 V.h5 V.a6 V.h6 V.a9 V.a10 V.a11 V.a12 V.a15 V.x1 V.x2 V.x3 V.x4 V.x5
def words26 := kernelRun0_A.sl.HS6_28 (F := Ideal) V.c V.a2 V.h2 V.x1
def ring27 := kernelRun0_A.sl.HS11_448 (F := Ideal) V.c V.a2 V.h2 V.a3 V.h3 V.a4 V.h4 V.a5 V.h5 V.a6 V.h6 V.a9 V.a10 V.a11 V.a12 V.a16 V.x1 V.x2 V.x3 V.x4 V.x5
def words27 := kernelRun0_A.sl.HS7_28 (F := Ideal) V.c V.a2 V.h2 V.x1
def ring28 := kernelRun0_A.sl.HS8_512 (F := Ideal) V.c V.a2 V.h2 V.a3 V.h3 V.a4 V.h4 V.a5 V.h5 V.a6 V.h6 V.a9 V.a10 V.a11 V.a12 V.a13 V.x1 V.x2 V.x3 V.x4 V.x5
def words28 := kernelRun0_A.sl.HS4_32 (F := Ideal) V.c V.a2 V.h2 V.x1
def ring29 := kernelRun0_A.sl.HS9_512 (F := Ideal) V.c V.a2 V.h2 V.a3 V.h3 V.a4 V.h4 V.a5 V.h5 V.a6 V.h6 V.a9 V.a10 V.a11 V.a12 V.a14 V.x1 V.x2 V.x3 V.x4 V.x5
def words29 := kernelRun0_A.sl.HS5_32 (F := Ideal) V.c V.a2 V.h2 V.x1
def ring30 := kernelRun0_A.sl.HS10_512 (F := Ideal) V.c V.a2 V.h2 V.a3 V.h3 V.a4 V.h4 V.a5 V.h5 V.a6 V.h6 V.a9 V.a10 V.a11 V.a12 V.a15 V.x1 V.x2 V.x3 V.x4 V.x5
def words30 := kernelRun0_A.sl.HS6_32 (F := Ideal) V.c V.a2 V.h2 V.x1
def ring31 := kernelRun0_A.sl.HS11_512 (F := Ideal) V.c V.a2 V.h2 V.a3 V.h3 V.a4 V.h4 V.a5 V.h5 V.a6 V.h6 V.a9 V.a10 V.a11 V.a12 V.a16 V.x1 V.x2 V.x3 V.x4 V.x5
def words31 := kernelRun0_A.sl.HS7_32 (F := Ideal) V.c V.a2 V.h2 V.x1
def ring32 := kernelRun0_A.sl.HS8_576 (F := Ideal) V.c V.a2 V.h2 V.a3 V.h3 V.a4 V.h4 V.a5 V.h5 V.a6 V.h6 V.a9 V.a10 V.a11 V.a12 V.a13 V.x1 V.x2 V.x3 V.x4 V.x5
def words32 := kernelRun0_A.sl.HS4_36 (F := Ideal) V.c V.a2 V.h2 V.x1
def ring33 := kernelRun0_A.sl.HS9_576 (F := Ideal) V.c V.a2 V.h2 V.a3 V.h3 V.a4 V.h4 V.a5 V.h5 V.a6 V.h6 V.a9 V.a10 V.a11 V.a12 V.a14 V.x1 V.x2 V.x3 V.x4 V.x5
def words33 := kernelRun0_A.sl.HS5_36 (F := Ideal) V.c V.a2 V.h2 V.x1
def ring34 := kernelRun0_A.sl.HS10_576 (F := Ideal) V.c V.a2 V.h2 V.a3 V.h3 V.a4 V.h4 V.a5 V.h5 V.a6 V.h6 V.a9 V.a10 V.a11 V.a12 V.a15 V.x1 V.x2 V.x3 V.x4 V.x5
def words34 := kernelRun0_A.sl.HS6_36 (F := Ideal) V.c V.a2 V.h2 V.x1
def ring35 := kernelRun0_A.sl.HS11_576 (F := Ideal) V.c V.a2 V.h2 V.a3 V.h3 V.a4 V.h4 V.a5 V.h5 V.a6 V.h6 V.a9 V.a10 V.a11 V.a12 V.a16 V.x1 V.x2 V.x3 V.x4 V.x5
def words35 := kernelRun0_A.sl.HS7_36 (F := Ideal) V.c V.a2 V.h2 V.x1
def ring36 := kernelRun0_A.sl.HS8_640 (F := Ideal) V.c V.a2 V.h2 V.a3 V.h3 V.a4 V.h4 V.a5 V.h5 V.a6 V.h6 V.a9 V.a10 V.a11 V.a12 V.a13 V.x1 V.x2 V.x3 V.x4 V.x5
def words36 := kernelRun0_A.sl.HS4_40 (F := Ideal) V.c V.a2 V.h2 V.x1
def ring37 := kernelRun0_A.sl.HS9_640 (F := Ideal) V.c V.a2 V.h2 V.a3 V.h3 V.a4 V.h4 V.a5 V.h5 V.a6 V.h6 V.a9 V.a10 V.a11 V.a12 V.a14 V.x1 V.x2 V.x3 V.x4 V.x5
def words37 := kernelRun0_A.sl.HS5_40 (F := Ideal) V.c V.a2 V.h2 V.x1
def ring38 := kernelRun0_A.sl.HS10_640 (F := Ideal) V.c V.a2 V.h2 V.a3 V.h3 V.a4 V.h4 V.a5 V.h5 V.a6 V.h6 V.a9 V.a10 V.a11 V.a12 V.a15 V.x1 V.x2 V.x3 V.x4 V.x5
def words38 := kernelRun0_A.sl.HS6_40 (F := Ideal) V.c V.a2 V.h2 V.x1
def ring39 := kernelRun0_A.sl.HS11_640 (F := Ideal) V.c V.a2 V.h2 V.a3 V.h3 V.a4 V.h4 V.a5 V.h5 V.a6 V.h6 V.a9 V.a10 V.a11 V.a12 V.a16 V.x1 V.x2 V.x3 V.x4 V.x5
def words39 := kernelRun0_A.sl.HS7_40 (F := Ideal) V.c V.a2 V.h2 V.x1
def acc0_0 := kernelRun0_A.sl.r_76 (F := Ideal) V.c V.a1 V.h1 V.a2 V.h2 V.a3 V.h3 V.a4 V.h4 V.a5 V.h5 V.a6 V.h6 V.a9 V.a10 V.a11 V.a12 V.a13 V.a17 V.x0 V.x1 V.x2 V.x3 V.x4 V.x5
def acc0_1 := kernelRun0_A.sl.r_80 (F := Ideal) V.c V.a1 V.h1 V.a2 V.h2 V.a3 V.h3 V.a4 V.h4 V.a5 V.h5 V.a6 V.h6 V.a9 V.a10 V.a11 V.a12 V.a13 V.a17 V.x0 V.x1 V.x2 V.x3 V.x4 V.x5
def acc1_0 := kernelRun0_A.sl.r_134 (F := Ideal) V.c V.a1 V.h1 V.a2 V.h2 V.a3 V.h3 V.a4 V.h4 V.a5 V.h5 V.a6 V.h6 V.a9 V.a10 V.a11 V.a12 V.a13 V.a14 V.a17 V.a18 V.x0 V.x1 V.x2 V.x3 V.x4 V.x5
def acc1_1 := kernelRun0_A.sl.r_135 (F := Ideal) V.c V.a1 V.h1 V.a2 V.h2 V.a3 V.h3 V.a4 V.h4 V.a5 V.h5 V.a6 V.h6 V.a9 V.a10 V.a11 V.a12 V.a13 V.a14 V.a17 V.a18 V.x0 V.x1 V.x2 V.x3 V.x4 V.x5
def acc2_0 := kernelRun0_A.sl.r_188 (F := Ideal) V.c V.a1 V.h1 V.a2 V.h2 V.a3 V.h3 V.a4 V.h4 V.a5 V.h5 V.a6 V.h6 V.a9 V.a10 V.a11 V.a12 V.a13 V.a14 V.a15 V.a17 V.a18 V.a19 V.x0 V.x1 V.x2 V.x3 V.x4 V.x5
def acc2_1 := kernelRun0_A.sl.r_189 (F := Ideal) V.c V.a1 V.h1 V.a2 V.h2 V.a3 V.h3 V.a4 V.h4 V.a5 V.h5 V.a6 V.h6 V.a9 V.a10 V.a11 V.a12 V.a13 V.a14 V.a15 V.a17 V.a18 V.a19 V.x0 V.x1 V.x2 V.x3 V.x4 V.x5
def acc3_0 := kernelRun0_A.sl.r_244 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc3_1 := kernelRun0_A.sl.r_245 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc4_0 := kernelRun0_A.sl.r_299 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc4_1 := kernelRun0_A.sl.r_300 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc5_0 := kernelRun0_A.sl.r_356 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc5_1 := kernelRun0_A.sl.r_358 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc6_0 := kernelRun0_A.sl.r_413 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc6_1 := kernelRun0_A.sl.r_414 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc7_0 := kernelRun0_A.sl.r_465 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc7_1 := kernelRun0_A.sl.r_467 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc8_0 := kernelRun0_A.sl.r_523 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc8_1 := kernelRun0_A.sl.r_524 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc9_0 := kernelRun0_A.sl.r_580 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc9_1 := kernelRun0_A.sl.r_583 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc10_0 := kernelRun0_A.sl.r_642 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc10_1 := kernelRun0_A.sl.r_643 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc11_0 := kernelRun0_A.sl.r_700 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc11_1 := kernelRun0_A.sl.r_702 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc12_0 := kernelRun0_A.sl.r_754 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc12_1 := kernelRun0_A.sl.r_755 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc13_0 := kernelRun0_A.sl.r_808 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc13_1 := kernelRun0_A.sl.r_809 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc14_0 := kernelRun0_A.sl.r_865 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc14_1 := kernelRun0_A.sl.r_867 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc15_0 := kernelRun0_A.sl.r_918 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc15_1 := kernelRun0_A.sl.r_919 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc16_0 := kernelRun0_A.sl.r_975 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc16_1 := kernelRun0_A.sl.r_978 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc17_0 := kernelRun0_A.sl.r_1033 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc17_1 := kernelRun0_A.sl.r_1034 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc18_0 := kernelRun0_A.sl.r_1088 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc18_1 := kernelRun0_A.sl.r_1092 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc20_0 := kernelRun0_A.sl.r_1239 (F := Ideal) V.c V.a1 V.h1 V.a2 V.h2 V.a3 V.h3 V.a4 V.h4 V.a5 V.h5 V.a6 V.h6 V.a9 V.a10 V.a11 V.a12 V.a13 V.a17 V.x0 V.x1 V.x2 V.x3 V.x4 V.x5
def acc20_1 := kernelRun0_A.sl.r_1240 (F := Ideal) V.c V.a1 V.h1 V.a2 V.h2 V.a3 V.h3 V.a4 V.h4 V.a5 V.h5 V.a6 V.h6 V.a9 V.a10 V.a11 V.a12 V.a13 V.a17 V.x0 V.x1 V.x2 V.x3 V.x4 V.x5
def acc21_0 := kernelRun0_A.sl.r_1296 (F := Ideal) V.c V.a1 V.h1 V.a2 V.h2 V.a3 V.h3 V.a4 V.h4 V.a5 V.h5 V.a6 V.h6 V.a9 V.a10 V.a11 V.a12 V.a13 V.a14 V.a17 V.a18 V.x0 V.x1 V.x2 V.x3 V.x4 V.x5
def acc21_1 := kernelRun0_A.sl.r_1298 (F := Ideal) V.c V.a1 V.h1 V.a2 V.h2 V.a3 V.h3 V.a4 V.h4 V.a5 V.h5 V.a6 V.h6 V.a9 V.a10 V.a11 V.a12 V.a13 V.a14 V.a17 V.a18 V.x0 V.x1 V.x2 V.x3 V.x4 V.x5
def acc22_0 := kernelRun0_A.sl.r_1349 (F := Ideal) V.c V.a1 V.h1 V.a2 V.h2 V.a3 V.h3 V.a4 V.h4 V.a5 V.h5 V.a6 V.h6 V.a9 V.a10 V.a11 V.a12 V.a13 V.a14 V.a15 V.a17 V.a18 V.a19 V.x0 V.x1 V.x2 V.x3 V.x4 V.x5
def acc22_1 := kernelRun0_A.sl.r_1350 (F := Ideal) V.c V.a1 V.h1 V.a2 V.h2 V.a3 V.h3 V.a4 V.h4 V.a5 V.h5 V.a6 V.h6 V.a9 V.a10 V.a11 V.a12 V.a13 V.a14 V.a15 V.a17 V.a18 V.a19 V.x0 V.x1 V.x2 V.x3 V.x4 V.x5
def acc23_0 := kernelRun0_A.sl.r_1406 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc23_1 := kernelRun0_A.sl.r_1409 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc24_0 := kernelRun0_A.sl.r_1464 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc24_1 := kernelRun0_A.sl.r_1465 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc25_0 := kernelRun0_A.sl.r_1519 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc25_1 := kernelRun0_A.sl.r_1523 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc26_0 := kernelRun0_A.sl.r_1577 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc26_1 := kernelRun0_A.sl.r_1578 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc27_0 := kernelRun0_A.sl.r_1633 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc27_1 := kernelRun0_A.sl.r_1638 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc28_0 := kernelRun0_A.sl.r_1692 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc28_1 := kernelRun0_A.sl.r_1693 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc29_0 := kernelRun0_A.sl.r_1746 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc29_1 := kernelRun0_A.sl.r_1747 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc30_0 := kernelRun0_A.sl.r_1802 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc30_1 := kernelRun0_A.sl.r_1803 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc31_0 := kernelRun0_A.sl.r_1857 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc31_1 := kernelRun0_A.sl.r_1858 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc32_0 := kernelRun0_A.sl.r_1914 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc32_1 := kernelRun0_A.sl.r_1916 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc33_0 := kernelRun0_A.sl.r_1971 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc33_1 := kernelRun0_A.sl.r_1972 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc34_0 := kernelRun0_A.sl.r_2023 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc34_1 := kernelRun0_A.sl.r_2025 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc35_0 := kernelRun0_A.sl.r_2081 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc35_1 := kernelRun0_A.sl.r_2082 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc36_0 := kernelRun0_A.sl.r_2138 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc36_1 := kernelRun0_A.sl.r_2141 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc37_0 := kernelRun0_A.sl.r_2200 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc37_1 := kernelRun0_A.sl.r_2201 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc38_0 := kernelRun0_A.sl.r_2258 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc38_1 := kernelRun0_A.sl.r_2260 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5
def acc39_0 := kernelRun0_A.sl.r_2312 (F := Ideal) V.c V.a1 V.h1 V.a2 V.h2 V.a3 V.h3 V.a4 V.h4 V.a5 V.h5 V.a6 V.h6 V.a9 V.a10 V.a11 V.a12 V.a13 V.a14 V.a15 V.a16 V.a17 V.a18 V.a19 V.a20 V.x0 V.x1 V.x2 V.x3 V.x4 V.x5

/-- The pieces that the run of the body writes to the output block. -/
def outPieces : List (View.Piece (Elt Ideal) S64x1024 .bf16) :=
  (kernelRun0_A (F := Ideal) V.c V.i V.a1 V.h1 V.a2 V.h2 V.a3 V.h3 V.a4 V.h4 V.a5 V.h5 V.a6 V.h6 V.a7 V.h7 V.a8 V.h8 V.a9 V.h9 V.a10 V.h10 V.a11 V.h11 V.a12 V.h12 V.a13 V.h13 V.a14 V.h14 V.a15 V.h15 V.a16 V.h16 V.a17 V.h17 V.a18 V.h18 V.a19 V.h19 V.a20 V.h20 V.x0 V.x1 V.x2 V.x3 V.x4 V.x5 V.x6).1

end Cert.Tiles
-- ==== Proof.Loads.lean ====
module

public import proofs.«01_k».proof.Proof.Env
public import Idealize.ShloMosaic.Lib.WholeRead

/-! What the loads of one grid point read, what its tables hold, and the partial sums of a tile's products. -/

@[expose] public section

noncomputable section

namespace Cert.Tiles

open Idealize.ShloMosaic Cert.KernelIdeal.Gen Cert.Words Cert.Ring

variable (V : Env)

theorem lx_inb (ci : Nat) (h : ci < 20) : ∀ a, (![0, 256 * ci] : Fin 2 → Nat) a + S64x256.size a ≤ KernelIdeal.S64x5120.size a := by
  intro a; fin_cases a
  · show 0 + 64 ≤ 64; omega
  · show 256 * ci + 256 ≤ 5120; omega

theorem lq_inb (t ci : Nat) (ht : t < 2) (h : ci < 20) : ∀ a, (![512 * t, 128 * ci] : Fin 2 → Nat) a + S512x128.size a ≤ KernelIdeal.S1024x2560.size a := by
  intro a; fin_cases a
  · show 512 * t + 512 ≤ 1024; omega
  · show 128 * ci + 128 ≤ 2560; omega

theorem la_inb (t : Nat) (ht : t < 2) : ∀ a, (![512 * t, 0] : Fin 2 → Nat) a + S512x128.size a ≤ KernelIdeal.S1024x160.size a := by
  intro a; fin_cases a
  · show 512 * t + 512 ≤ 1024; omega
  · show 0 + 128 ≤ 160; omega

theorem lb_inb (t : Nat) (ht : t < 2) : ∀ a, (![512 * t, 128] : Fin 2 → Nat) a + S512x32.size a ≤ KernelIdeal.S1024x160.size a := by
  intro a; fin_cases a
  · show 512 * t + 512 ≤ 1024; omega
  · show 128 + 32 ≤ 160; omega

abbrev S512x2x20 : Shape := ⟨3, ![512, 2, 20]⟩

theorem lr_inb (t p : Nat) (ht : t < 2) (hp : p < 2) : ∀ a, S128x2x20.size a = 0 ∨ (![256 * t + p, 0, 0] : Fin 3 → Nat) a + (![2, 1, 1] : Fin 3 → Nat) a * (S128x2x20.size a - 1) < S512x2x20.size a := by
  intro a; right; fin_cases a
  · show 256 * t + p + 2 * 127 < 512; omega
  · show 0 + 1 * 1 < 2; omega
  · show 0 + 1 * 19 < 20; omega

theorem rs_numel : S512x2x20.numel = KernelIdeal.S1024x20.numel := by decide

/-- Chunk `ci` of `x`. -/
def lx (ci : Nat) (h : ci < 20) : Vec Ideal S64x256 .bf16 :=
  View.readAt (Elt Ideal) V.a1.view (Rect.unit (s := KernelIdeal.S64x5120) ![0, 256 * ci] S64x256.size (lx_inb ci h)).toLoadRect (V.h1.unread V.x0)

/-- The packed codes of chunk `ci` of tile `t`. -/
def lq (t ci : Nat) (ht : t < 2) (h : ci < 20) : Vec Ideal S512x128 .i8 :=
  View.readAt (Elt Ideal) V.a2.view (Rect.unit (s := KernelIdeal.S1024x2560) ![512 * t, 128 * ci] S512x128.size (lq_inb t ci ht h)).toLoadRect (V.h2.unread V.x1)

/-- The first 128 byte scales of every row of tile `t`. -/
def ls0 (t : Nat) (ht : t < 2) : Vec Ideal S512x128 .i8 :=
  View.readAt (Elt Ideal) V.a5.view (Rect.unit (s := KernelIdeal.S1024x160) ![512 * t, 0] S512x128.size (la_inb t ht)).toLoadRect (V.h5.unread V.x4)

/-- The last 32 byte scales of every row of tile `t`. -/
def ls1 (t : Nat) (ht : t < 2) : Vec Ideal S512x32 .i8 :=
  View.readAt (Elt Ideal) V.a5.view (Rect.unit (s := KernelIdeal.S1024x160) ![512 * t, 128] S512x32.size (lb_inb t ht)).toLoadRect (V.h5.unread V.x4)

/-- The first 128 byte minima of every row of tile `t`. -/
def ln0 (t : Nat) (ht : t < 2) : Vec Ideal S512x128 .i8 :=
  View.readAt (Elt Ideal) V.a6.view (Rect.unit (s := KernelIdeal.S1024x160) ![512 * t, 0] S512x128.size (la_inb t ht)).toLoadRect (V.h6.unread V.x5)

/-- The last 32 byte minima of every row of tile `t`. -/
def ln1 (t : Nat) (ht : t < 2) : Vec Ideal S512x32 .i8 :=
  View.readAt (Elt Ideal) V.a6.view (Rect.unit (s := KernelIdeal.S1024x160) ![512 * t, 128] S512x32.size (lb_inb t ht)).toLoadRect (V.h6.unread V.x5)

/-- The block scales of every second pair of rows of tile `t`. -/
def ld (t p : Nat) (ht : t < 2) (hp : p < 2) : Vec Ideal S128x2x20 .i16 :=
  View.readAt (Elt Ideal) (V.a3.view.reshape S512x2x20 rs_numel) (⟨![256 * t + p, 0, 0], S128x2x20.size, ![2, 1, 1], lr_inb t p ht hp⟩ : LoadRect S512x2x20) (V.h3.unread V.x2)

/-- The block minima of every second pair of rows of tile `t`. -/
def lm (t p : Nat) (ht : t < 2) (hp : p < 2) : Vec Ideal S128x2x20 .i16 :=
  View.readAt (Elt Ideal) (V.a4.view.reshape S512x2x20 rs_numel) (⟨![256 * t + p, 0, 0], S128x2x20.size, ![2, 1, 1], lr_inb t p ht hp⟩ : LoadRect S512x2x20) (V.h4.unread V.x3)

theorem lx_apply (ci : Nat) (h : ci < 20) (m : Fin 64) (k : Fin 256) : lx V ci h (ix2 m k) = V.x0 (ix2 m ⟨256 * ci + k.val, by omega⟩) := by
  refine (congrFun (V.h1.read_unread V.x0) _).trans (congrArg V.x0 ?_)
  funext a; fin_cases a
  · exact Fin.ext (show 0 + 1 * m.val = m.val by omega)
  · exact Fin.ext (show 256 * ci + 1 * k.val = 256 * ci + k.val by omega)

theorem lq_apply (t ci : Nat) (ht : t < 2) (h : ci < 20) (r : Fin 512) (k : Fin 128) :
    lq V t ci ht h (ix2 r k) = V.x1 (ix2 ⟨512 * t + r.val, by omega⟩ ⟨128 * ci + k.val, by omega⟩) := by
  refine (congrFun (V.h2.read_unread V.x1) _).trans (congrArg V.x1 ?_)
  funext a; fin_cases a
  · exact Fin.ext (show 512 * t + 1 * r.val = 512 * t + r.val by omega)
  · exact Fin.ext (show 128 * ci + 1 * k.val = 128 * ci + k.val by omega)

theorem ls0_apply (t : Nat) (ht : t < 2) (r : Fin 512) (k : Fin 128) : ls0 V t ht (ix2 r k) = V.x4 (ix2 ⟨512 * t + r.val, by omega⟩ ⟨k.val, by omega⟩) := by
  refine (congrFun (V.h5.read_unread V.x4) _).trans (congrArg V.x4 ?_)
  funext a; fin_cases a
  · exact Fin.ext (show 512 * t + 1 * r.val = 512 * t + r.val by omega)
  · exact Fin.ext (show 0 + 1 * k.val = k.val by omega)

theorem ls1_apply (t : Nat) (ht : t < 2) (r : Fin 512) (k : Fin 32) : ls1 V t ht (ix2 r k) = V.x4 (ix2 ⟨512 * t + r.val, by omega⟩ ⟨128 + k.val, by omega⟩) := by
  refine (congrFun (V.h5.read_unread V.x4) _).trans (congrArg V.x4 ?_)
  funext a; fin_cases a
  · exact Fin.ext (show 512 * t + 1 * r.val = 512 * t + r.val by omega)
  · exact Fin.ext (show 128 + 1 * k.val = 128 + k.val by omega)

theorem ln0_apply (t : Nat) (ht : t < 2) (r : Fin 512) (k : Fin 128) : ln0 V t ht (ix2 r k) = V.x5 (ix2 ⟨512 * t + r.val, by omega⟩ ⟨k.val, by omega⟩) := by
  refine (congrFun (V.h6.read_unread V.x5) _).trans (congrArg V.x5 ?_)
  funext a; fin_cases a
  · exact Fin.ext (show 512 * t + 1 * r.val = 512 * t + r.val by omega)
  · exact Fin.ext (show 0 + 1 * k.val = k.val by omega)

theorem ln1_apply (t : Nat) (ht : t < 2) (r : Fin 512) (k : Fin 32) : ln1 V t ht (ix2 r k) = V.x5 (ix2 ⟨512 * t + r.val, by omega⟩ ⟨128 + k.val, by omega⟩) := by
  refine (congrFun (V.h6.read_unread V.x5) _).trans (congrArg V.x5 ?_)
  funext a; fin_cases a
  · exact Fin.ext (show 512 * t + 1 * r.val = 512 * t + r.val by omega)
  · exact Fin.ext (show 128 + 1 * k.val = 128 + k.val by omega)

/-- A row pair of a table of half words, read as an index into pairs of rows. -/
theorem rows_apply (X : Vec Ideal KernelIdeal.S1024x20 .i16) (q : Fin 512) (i : Fin 2) (k : Fin 20) :
    X (Shape.reshapeEquiv rs_numel (ix3 q i k)) = X (ix2 ⟨2 * q.val + i.val, by omega⟩ k) := by
  show shapeCast S512x2x20 X rs_numel.symm (ix3 q i k) = _
  have h : shapeCast S512x2x20 X rs_numel.symm (ix3 q i k) = X (ix2 ⟨q.val * 2 + i.val, by omega⟩ k) := by pointwise
  exact h.trans (congrArg (fun z => X (ix2 z k)) (Fin.ext (show q.val * 2 + i.val = 2 * q.val + i.val by omega)))

theorem ld_apply (t p : Nat) (ht : t < 2) (hp : p < 2) (r : Fin 128) (i : Fin 2) (k : Fin 20) :
    ld V t p ht hp (ix3 r i k) = V.x2 (ix2 ⟨512 * t + (4 * r.val + 2 * p + i.val), by omega⟩ k) := by
  refine (congrFun (V.h3.read_unread V.x2) _).trans (Eq.trans ?_ ((rows_apply V.x2 ⟨256 * t + p + 2 * r.val, by omega⟩ i k).trans ?_))
  · refine congrArg (fun z => V.x2 (Shape.reshapeEquiv rs_numel z)) ?_
    funext a; fin_cases a
    · rfl
    · exact Fin.ext (show 0 + 1 * i.val = i.val by omega)
    · exact Fin.ext (show 0 + 1 * k.val = k.val by omega)
  · refine congrArg (fun z => V.x2 (ix2 z k)) (Fin.ext ?_)
    show 2 * (256 * t + p + 2 * r.val) + i.val = 512 * t + (4 * r.val + 2 * p + i.val)
    omega

theorem lm_apply (t p : Nat) (ht : t < 2) (hp : p < 2) (r : Fin 128) (i : Fin 2) (k : Fin 20) :
    lm V t p ht hp (ix3 r i k) = V.x3 (ix2 ⟨512 * t + (4 * r.val + 2 * p + i.val), by omega⟩ k) := by
  refine (congrFun (V.h4.read_unread V.x3) _).trans (Eq.trans ?_ ((rows_apply V.x3 ⟨256 * t + p + 2 * r.val, by omega⟩ i k).trans ?_))
  · refine congrArg (fun z => V.x3 (Shape.reshapeEquiv rs_numel z)) ?_
    funext a; fin_cases a
    · rfl
    · exact Fin.ext (show 0 + 1 * i.val = i.val by omega)
    · exact Fin.ext (show 0 + 1 * k.val = k.val by omega)
  · refine congrArg (fun z => V.x3 (ix2 z k)) (Fin.ext ?_)
    show 2 * (256 * t + p + 2 * r.val) + i.val = 512 * t + (4 * r.val + 2 * p + i.val)
    omega

end Cert.Tiles
-- ==== Proof.Steps.lean ====
module

public import proofs.«01_k».proof.Proof.Loads

/-! What the tables of a tile hold, and how a tile's accumulators grow chunk by chunk. -/

@[expose] public section

noncomputable section

namespace Cert.Tiles

open Idealize.ShloMosaic Cert.Words Cert.Ring

variable (V : Env)

/-- The block scales of the rows of tile `t`. -/
def tD (t : Nat) (ht : t < 2) (R : Fin 512) (k : Fin 20) : EReal :=
  Half.decode ((V.x2 (ix2 ⟨512 * t + R.val, by omega⟩ k)).setWidth 32) * Ideal.ieee 8 23 0x44000000#32

/-- The block minima of the rows of tile `t`. -/
def tM (t : Nat) (ht : t < 2) (R : Fin 512) (k : Fin 20) : EReal :=
  Half.decode ((V.x3 (ix2 ⟨512 * t + R.val, by omega⟩ k)).setWidth 32) * Ideal.ieee 8 23 0x3F800000#32

/-- The byte scales of the rows of tile `t`. -/
def tS (t : Nat) (ht : t < 2) (R : Fin 512) (k : Fin 160) : BitVec 8 := V.x4 (ix2 ⟨512 * t + R.val, by omega⟩ k)

/-- The byte minima of the rows of tile `t`. -/
def tN (t : Nat) (ht : t < 2) (R : Fin 512) (k : Fin 160) : BitVec 8 := V.x5 (ix2 ⟨512 * t + R.val, by omega⟩ k)

/-- The packed codes of chunk `ci` of the rows of tile `t`. -/
def tQ (t ci : Nat) (ht : t < 2) (h : ci < 20) (R : Fin 512) (j : Fin 128) : BitVec 8 :=
  V.x1 (ix2 ⟨512 * t + R.val, by omega⟩ ⟨128 * ci + j.val, by omega⟩)

theorem blocks_hold (fac : BitVec 32) (X : Vec Ideal KernelIdeal.S1024x20 .i16) (t : Nat) (ht : t < 2) (r0 r1 : Vec Ideal S128x2x20 .i16)
    (old : List (View.Piece (Elt Ideal) S160x128 .f32))
    (h0 : ∀ (r : Fin 128) (i : Fin 2) (k : Fin 20), r0 (ix3 r i k) = X (ix2 ⟨512 * t + (4 * r.val + 2 * 0 + i.val), by omega⟩ k))
    (h1 : ∀ (r : Fin 128) (i : Fin 2) (k : Fin 20), r1 (ix3 r i k) = X (ix2 ⟨512 * t + (4 * r.val + 2 * 1 + i.val), by omega⟩ k)) :
    HoldsBlocks (blockPieces fac r0 r1 ++ old) fun R k => Half.decode ((X (ix2 ⟨512 * t + R.val, by omega⟩ k)).setWidth 32) * Ideal.ieee 8 23 fac := by
  intro y k e b he hb l hy0 hy1
  exact canon_blockPieces fac r0 r1 (fun R k => X (ix2 ⟨512 * t + R.val, by omega⟩ k)) h0 h1 old y k e b he hb l hy0 hy1

theorem words_hold (t ci : Nat) (ht : t < 2) (h : ci < 20) (old : List (View.Piece (Elt Ideal) S128x128 .i32)) :
    HoldsWords (wordPieces (wordsT (lq V t ci ht h)) ++ old) (tQ V t ci ht h) := by
  intro y p j e hp hj he l hy0 hy1 b hb
  rw [canon_wordPieces _ old y p j e hp hj he l hy0 hy1, wordsT_apply _ _ _ b hb, lq_apply]
  rfl

/-- What the four tables of tile `t` hold. -/
structure Tables (t : Nat) (ht : t < 2) (sL nL : List (View.Piece (Elt Ideal) S160x128 .i32)) (dL mL : List (View.Piece (Elt Ideal) S160x128 .f32)) : Prop where
  d : HoldsBlocks dL (tD V t ht)
  m : HoldsBlocks mL (tM V t ht)
  s : HoldsBytes sL (tS V t ht)
  n : HoldsBytes nL (tN V t ht)

theorem tables_of (t : Nat) (ht : t < 2) {sL nL : List (View.Piece (Elt Ideal) S160x128 .i32)} {dL mL : List (View.Piece (Elt Ideal) S160x128 .f32)}
    {s' n' : List (View.Piece (Elt Ideal) S160x128 .i32)} {d' m' : List (View.Piece (Elt Ideal) S160x128 .f32)}
    (hs : sL = scalePieces (ls0 V t ht) (ls1 V t ht) ++ s') (hn : nL = scalePieces (ln0 V t ht) (ln1 V t ht) ++ n')
    (hd : dL = blockPieces 0x44000000#32 (ld V t 0 ht (by omega)) (ld V t 1 ht (by omega)) ++ d')
    (hm : mL = blockPieces 0x3F800000#32 (lm V t 0 ht (by omega)) (lm V t 1 ht (by omega)) ++ m') : Tables V t ht sL nL dL mL := by
  subst hs hn hd hm
  refine ⟨?_, ?_, ?_, ?_⟩
  · exact blocks_hold _ V.x2 t ht _ _ d' (fun r i k => ld_apply V t 0 ht _ r i k) (fun r i k => ld_apply V t 1 ht _ r i k)
  · exact blocks_hold _ V.x3 t ht _ _ m' (fun r i k => lm_apply V t 0 ht _ r i k) (fun r i k => lm_apply V t 1 ht _ r i k)
  · intro y k l h0 h1 b hb
    exact canon_scalePieces _ _ s' (tS V t ht) (fun r k => ls0_apply V t ht r k) (fun r k => ls1_apply V t ht r k) y k l h0 h1 b hb
  · intro y k l h0 h1 b hb
    exact canon_scalePieces _ _ n' (tN V t ht) (fun r k => ln0_apply V t ht r k) (fun r k => ln1_apply V t ht r k) y k l h0 h1 b hb

/-- The product of row `m` of `x` with row `R` of tile `t`, over the columns of chunk `ci`. -/
def chunkSum (t : Nat) (ht : t < 2) (R : Fin 512) (m : Fin 64) (ci : Nat) (h : ci < 20) : EReal :=
  ∑ k : Fin 256, (V.x0 (ix2 m ⟨256 * ci + k.val, by omega⟩) : EReal) * weight (tD V t ht) (tM V t ht) (tS V t ht) (tN V t ht) (tQ V t ci ht h) ci h R k

/-- The same over the first `ci + 1` chunks. -/
def partSum (t : Nat) (ht : t < 2) (R : Fin 512) (m : Fin 64) (ci : Nat) (h : ci < 20) : EReal :=
  ∑ i : Fin (ci + 1), chunkSum V t ht R m i.val (by omega)

/-- An accumulator of two groups of 128 columns after chunk `ci`. -/
def Holds (t : Nat) (ht : t < 2) (bp : Fin 2) (ci : Nat) (h : ci < 20) (acc : FVec Ideal S64x256 .f32) : Prop :=
  ∀ (g : Fin 2) (m : Fin 64) (n : Fin 128), (acc (ix2 m ⟨128 * g.val + n.val, by omega⟩) : EReal) = partSum V t ht ⟨4 * n.val + (2 * bp.val + g.val), by omega⟩ m ci h

section
variable {V} {t : Nat} {ht : t < 2} {bp : Fin 2} {sg : RefSig} {κ : Kind} {sp : Space}
variable {V9 V10 : View sg κ sp S160x128 .i32} {V11 V12 : View sg κ sp S160x128 .f32} {V13 : View sg κ sp S128x128 .i32} {V17 : View sg κ sp S544x2x128 .bf16}
variable {sL nL : List (View.Piece (Elt Ideal) S160x128 .i32)} {dL mL : List (View.Piece (Elt Ideal) S160x128 .f32)} {wL oldw : List (View.Piece (Elt Ideal) S128x128 .i32)}
variable {ring oldr : List PieceR}

/-- The product of one chunk. -/
theorem chunk_value {ci : Nat} {h : ci < 20} (hT : Tables V t ht sL nL dL mL) (hw : wL = wordPieces (wordsT (lq V t ci ht h)) ++ oldw)
    (hr : ring = ringPieces V9 V10 V11 V12 V13 sL nL dL mL wL ci h oldr) (g : Fin 2) (m : Fin 64) (n : Fin 128) :
    (chunkPart V17 (lx V ci h) ring bp (ix2 m ⟨128 * g.val + n.val, by omega⟩) : EReal) = chunkSum V t ht ⟨4 * n.val + (2 * bp.val + g.val), by omega⟩ m ci h := by
  subst hr hw
  rw [chunkPart_apply V9 V10 V11 V12 V13 V17 sL nL dL mL _ (tD V t ht) (tM V t ht) (tS V t ht) (tN V t ht) (tQ V t ci ht h) ci h hT.d hT.m hT.s hT.n (words_hold V t ci ht h oldw) oldr]
  exact Finset.sum_congr rfl fun k _ => congrArg (fun u : EReal => u * _) (lx_apply V ci h m k)

/-- The first chunk starts an accumulator … -/
theorem holds_zero {acc : FVec Ideal S64x256 .f32} (hT : Tables V t ht sL nL dL mL) (hw : wL = wordPieces (wordsT (lq V t 0 ht (by omega))) ++ oldw)
    (hr : ring = ringPieces V9 V10 V11 V12 V13 sL nL dL mL wL 0 (by omega) oldr) (ha : acc = chunkPart V17 (lx V 0 (by omega)) ring bp) :
    Holds V t ht bp 0 (by omega) acc := by
  intro g m n
  rw [ha, chunk_value hT hw hr]
  exact (Fin.sum_univ_one (fun i : Fin 1 => chunkSum V t ht _ m i.val (by omega))).symm

/-- … and every other chunk adds to it. -/
theorem holds_succ {ci : Nat} {h : ci + 1 < 20} {acc prev : FVec Ideal S64x256 .f32} (hp : Holds V t ht bp ci (by omega) prev) (hT : Tables V t ht sL nL dL mL)
    (hw : wL = wordPieces (wordsT (lq V t (ci + 1) ht h)) ++ oldw) (hr : ring = ringPieces V9 V10 V11 V12 V13 sL nL dL mL wL (ci + 1) h oldr)
    (ha : acc = addf prev (chunkPart V17 (lx V (ci + 1) h) ring bp)) : Holds V t ht bp (ci + 1) h acc := by
  intro g m n
  rw [ha]
  refine (congrArg₂ (fun u v : EReal => u + v) (hp g m n) (chunk_value hT hw hr g m n)).trans ?_
  exact (Fin.sum_univ_castSucc (fun i : Fin (ci + 1 + 1) => chunkSum V t ht ⟨4 * n.val + (2 * bp.val + g.val), by omega⟩ m i.val (by omega))).symm
end

end Cert.Tiles
-- ==== Proof.Tile0.lean ====
module

public import proofs.«01_k».proof.Proof.Steps

/-! Tile 0: the tables, code words, rings and accumulators that the run finds are the ones of `Steps`, chunk by chunk. -/

@[expose] public section

noncomputable section

namespace Cert.Tiles

open Idealize.ShloMosaic Cert.Words Cert.Ring

variable (V : Env)

theorem tables0 : Tables V 0 (by omega) (sL0 V) (nL0 V) (dL0 V) (mL0 V) :=
  tables_of V 0 (by omega) (s' := []) (n' := []) (d' := []) (m' := []) (by sl_kernel_rfl) (by sl_kernel_rfl) (by sl_kernel_rfl) (by sl_kernel_rfl)

theorem words0_eq : words0 V = wordPieces (wordsT (lq V 0 0 (by omega) (by omega))) ++ [] := rfl

theorem ring0_eq : ring0 V = ringPieces V.a9.view V.a10.view V.a11.view V.a12.view V.a13.view (sL0 V) (nL0 V) (dL0 V) (mL0 V) (words0 V) 0 (by omega) [] := by sl_kernel_rfl

theorem holds0_0 : Holds V 0 (by omega) 0 0 (by omega) (acc0_0 V) :=
  holds_zero (V17 := V.a17.view) (tables0 V) (words0_eq V) (ring0_eq V) rfl

theorem holds0_1 : Holds V 0 (by omega) 1 0 (by omega) (acc0_1 V) :=
  holds_zero (V17 := V.a17.view) (tables0 V) (words0_eq V) (ring0_eq V) rfl

theorem words1_eq : words1 V = wordPieces (wordsT (lq V 0 1 (by omega) (by omega))) ++ [] := rfl

theorem ring1_eq : ring1 V = ringPieces V.a9.view V.a10.view V.a11.view V.a12.view V.a14.view (sL0 V) (nL0 V) (dL0 V) (mL0 V) (words1 V) 1 (by omega) [] := by sl_kernel_rfl

theorem holds1_0 : Holds V 0 (by omega) 0 1 (by omega) (acc1_0 V) :=
  holds_succ (V17 := V.a18.view) (holds0_0 V) (tables0 V) (words1_eq V) (ring1_eq V) rfl

theorem holds1_1 : Holds V 0 (by omega) 1 1 (by omega) (acc1_1 V) :=
  holds_succ (V17 := V.a18.view) (holds0_1 V) (tables0 V) (words1_eq V) (ring1_eq V) rfl

theorem words2_eq : words2 V = wordPieces (wordsT (lq V 0 2 (by omega) (by omega))) ++ [] := rfl

theorem ring2_eq : ring2 V = ringPieces V.a9.view V.a10.view V.a11.view V.a12.view V.a15.view (sL0 V) (nL0 V) (dL0 V) (mL0 V) (words2 V) 2 (by omega) [] := by sl_kernel_rfl

theorem holds2_0 : Holds V 0 (by omega) 0 2 (by omega) (acc2_0 V) :=
  holds_succ (V17 := V.a19.view) (holds1_0 V) (tables0 V) (words2_eq V) (ring2_eq V) rfl

theorem holds2_1 : Holds V 0 (by omega) 1 2 (by omega) (acc2_1 V) :=
  holds_succ (V17 := V.a19.view) (holds1_1 V) (tables0 V) (words2_eq V) (ring2_eq V) rfl

theorem words3_eq : words3 V = wordPieces (wordsT (lq V 0 3 (by omega) (by omega))) ++ [] := rfl

theorem ring3_eq : ring3 V = ringPieces V.a9.view V.a10.view V.a11.view V.a12.view V.a16.view (sL0 V) (nL0 V) (dL0 V) (mL0 V) (words3 V) 3 (by omega) [] := by sl_kernel_rfl

theorem holds3_0 : Holds V 0 (by omega) 0 3 (by omega) (acc3_0 V) :=
  holds_succ (V17 := V.a20.view) (holds2_0 V) (tables0 V) (words3_eq V) (ring3_eq V) rfl

theorem holds3_1 : Holds V 0 (by omega) 1 3 (by omega) (acc3_1 V) :=
  holds_succ (V17 := V.a20.view) (holds2_1 V) (tables0 V) (words3_eq V) (ring3_eq V) rfl

theorem words4_eq : words4 V = wordPieces (wordsT (lq V 0 4 (by omega) (by omega))) ++ (words0 V) := rfl

theorem ring4_eq : ring4 V = ringPieces V.a9.view V.a10.view V.a11.view V.a12.view V.a13.view (sL0 V) (nL0 V) (dL0 V) (mL0 V) (words4 V) 4 (by omega) (ring0 V) := by sl_kernel_rfl

theorem holds4_0 : Holds V 0 (by omega) 0 4 (by omega) (acc4_0 V) :=
  holds_succ (V17 := V.a17.view) (holds3_0 V) (tables0 V) (words4_eq V) (ring4_eq V) rfl

theorem holds4_1 : Holds V 0 (by omega) 1 4 (by omega) (acc4_1 V) :=
  holds_succ (V17 := V.a17.view) (holds3_1 V) (tables0 V) (words4_eq V) (ring4_eq V) rfl

theorem words5_eq : words5 V = wordPieces (wordsT (lq V 0 5 (by omega) (by omega))) ++ (words1 V) := rfl

theorem ring5_eq : ring5 V = ringPieces V.a9.view V.a10.view V.a11.view V.a12.view V.a14.view (sL0 V) (nL0 V) (dL0 V) (mL0 V) (words5 V) 5 (by omega) (ring1 V) := by sl_kernel_rfl

theorem holds5_0 : Holds V 0 (by omega) 0 5 (by omega) (acc5_0 V) :=
  holds_succ (V17 := V.a18.view) (holds4_0 V) (tables0 V) (words5_eq V) (ring5_eq V) rfl

theorem holds5_1 : Holds V 0 (by omega) 1 5 (by omega) (acc5_1 V) :=
  holds_succ (V17 := V.a18.view) (holds4_1 V) (tables0 V) (words5_eq V) (ring5_eq V) rfl

theorem words6_eq : words6 V = wordPieces (wordsT (lq V 0 6 (by omega) (by omega))) ++ (words2 V) := rfl

theorem ring6_eq : ring6 V = ringPieces V.a9.view V.a10.view V.a11.view V.a12.view V.a15.view (sL0 V) (nL0 V) (dL0 V) (mL0 V) (words6 V) 6 (by omega) (ring2 V) := by sl_kernel_rfl

theorem holds6_0 : Holds V 0 (by omega) 0 6 (by omega) (acc6_0 V) :=
  holds_succ (V17 := V.a19.view) (holds5_0 V) (tables0 V) (words6_eq V) (ring6_eq V) rfl

theorem holds6_1 : Holds V 0 (by omega) 1 6 (by omega) (acc6_1 V) :=
  holds_succ (V17 := V.a19.view) (holds5_1 V) (tables0 V) (words6_eq V) (ring6_eq V) rfl

theorem words7_eq : words7 V = wordPieces (wordsT (lq V 0 7 (by omega) (by omega))) ++ (words3 V) := rfl

theorem ring7_eq : ring7 V = ringPieces V.a9.view V.a10.view V.a11.view V.a12.view V.a16.view (sL0 V) (nL0 V) (dL0 V) (mL0 V) (words7 V) 7 (by omega) (ring3 V) := by sl_kernel_rfl

theorem holds7_0 : Holds V 0 (by omega) 0 7 (by omega) (acc7_0 V) :=
  holds_succ (V17 := V.a20.view) (holds6_0 V) (tables0 V) (words7_eq V) (ring7_eq V) rfl

theorem holds7_1 : Holds V 0 (by omega) 1 7 (by omega) (acc7_1 V) :=
  holds_succ (V17 := V.a20.view) (holds6_1 V) (tables0 V) (words7_eq V) (ring7_eq V) rfl

theorem words8_eq : words8 V = wordPieces (wordsT (lq V 0 8 (by omega) (by omega))) ++ (words4 V) := rfl

theorem ring8_eq : ring8 V = ringPieces V.a9.view V.a10.view V.a11.view V.a12.view V.a13.view (sL0 V) (nL0 V) (dL0 V) (mL0 V) (words8 V) 8 (by omega) (ring4 V) := by sl_kernel_rfl

theorem holds8_0 : Holds V 0 (by omega) 0 8 (by omega) (acc8_0 V) :=
  holds_succ (V17 := V.a17.view) (holds7_0 V) (tables0 V) (words8_eq V) (ring8_eq V) rfl

theorem holds8_1 : Holds V 0 (by omega) 1 8 (by omega) (acc8_1 V) :=
  holds_succ (V17 := V.a17.view) (holds7_1 V) (tables0 V) (words8_eq V) (ring8_eq V) rfl

theorem words9_eq : words9 V = wordPieces (wordsT (lq V 0 9 (by omega) (by omega))) ++ (words5 V) := rfl

theorem ring9_eq : ring9 V = ringPieces V.a9.view V.a10.view V.a11.view V.a12.view V.a14.view (sL0 V) (nL0 V) (dL0 V) (mL0 V) (words9 V) 9 (by omega) (ring5 V) := by sl_kernel_rfl

theorem holds9_0 : Holds V 0 (by omega) 0 9 (by omega) (acc9_0 V) :=
  holds_succ (V17 := V.a18.view) (holds8_0 V) (tables0 V) (words9_eq V) (ring9_eq V) rfl

theorem holds9_1 : Holds V 0 (by omega) 1 9 (by omega) (acc9_1 V) :=
  holds_succ (V17 := V.a18.view) (holds8_1 V) (tables0 V) (words9_eq V) (ring9_eq V) rfl

theorem words10_eq : words10 V = wordPieces (wordsT (lq V 0 10 (by omega) (by omega))) ++ (words6 V) := rfl

theorem ring10_eq : ring10 V = ringPieces V.a9.view V.a10.view V.a11.view V.a12.view V.a15.view (sL0 V) (nL0 V) (dL0 V) (mL0 V) (words10 V) 10 (by omega) (ring6 V) := by sl_kernel_rfl

theorem holds10_0 : Holds V 0 (by omega) 0 10 (by omega) (acc10_0 V) :=
  holds_succ (V17 := V.a19.view) (holds9_0 V) (tables0 V) (words10_eq V) (ring10_eq V) rfl

theorem holds10_1 : Holds V 0 (by omega) 1 10 (by omega) (acc10_1 V) :=
  holds_succ (V17 := V.a19.view) (holds9_1 V) (tables0 V) (words10_eq V) (ring10_eq V) rfl

theorem words11_eq : words11 V = wordPieces (wordsT (lq V 0 11 (by omega) (by omega))) ++ (words7 V) := rfl

theorem ring11_eq : ring11 V = ringPieces V.a9.view V.a10.view V.a11.view V.a12.view V.a16.view (sL0 V) (nL0 V) (dL0 V) (mL0 V) (words11 V) 11 (by omega) (ring7 V) := by sl_kernel_rfl

theorem holds11_0 : Holds V 0 (by omega) 0 11 (by omega) (acc11_0 V) :=
  holds_succ (V17 := V.a20.view) (holds10_0 V) (tables0 V) (words11_eq V) (ring11_eq V) rfl

theorem holds11_1 : Holds V 0 (by omega) 1 11 (by omega) (acc11_1 V) :=
  holds_succ (V17 := V.a20.view) (holds10_1 V) (tables0 V) (words11_eq V) (ring11_eq V) rfl

theorem words12_eq : words12 V = wordPieces (wordsT (lq V 0 12 (by omega) (by omega))) ++ (words8 V) := rfl

theorem ring12_eq : ring12 V = ringPieces V.a9.view V.a10.view V.a11.view V.a12.view V.a13.view (sL0 V) (nL0 V) (dL0 V) (mL0 V) (words12 V) 12 (by omega) (ring8 V) := by sl_kernel_rfl

theorem holds12_0 : Holds V 0 (by omega) 0 12 (by omega) (acc12_0 V) :=
  holds_succ (V17 := V.a17.view) (holds11_0 V) (tables0 V) (words12_eq V) (ring12_eq V) rfl

theorem holds12_1 : Holds V 0 (by omega) 1 12 (by omega) (acc12_1 V) :=
  holds_succ (V17 := V.a17.view) (holds11_1 V) (tables0 V) (words12_eq V) (ring12_eq V) rfl

theorem words13_eq : words13 V = wordPieces (wordsT (lq V 0 13 (by omega) (by omega))) ++ (words9 V) := rfl

theorem ring13_eq : ring13 V = ringPieces V.a9.view V.a10.view V.a11.view V.a12.view V.a14.view (sL0 V) (nL0 V) (dL0 V) (mL0 V) (words13 V) 13 (by omega) (ring9 V) := by sl_kernel_rfl

theorem holds13_0 : Holds V 0 (by omega) 0 13 (by omega) (acc13_0 V) :=
  holds_succ (V17 := V.a18.view) (holds12_0 V) (tables0 V) (words13_eq V) (ring13_eq V) rfl

theorem holds13_1 : Holds V 0 (by omega) 1 13 (by omega) (acc13_1 V) :=
  holds_succ (V17 := V.a18.view) (holds12_1 V) (tables0 V) (words13_eq V) (ring13_eq V) rfl

theorem words14_eq : words14 V = wordPieces (wordsT (lq V 0 14 (by omega) (by omega))) ++ (words10 V) := rfl

theorem ring14_eq : ring14 V = ringPieces V.a9.view V.a10.view V.a11.view V.a12.view V.a15.view (sL0 V) (nL0 V) (dL0 V) (mL0 V) (words14 V) 14 (by omega) (ring10 V) := by sl_kernel_rfl

theorem holds14_0 : Holds V 0 (by omega) 0 14 (by omega) (acc14_0 V) :=
  holds_succ (V17 := V.a19.view) (holds13_0 V) (tables0 V) (words14_eq V) (ring14_eq V) rfl

theorem holds14_1 : Holds V 0 (by omega) 1 14 (by omega) (acc14_1 V) :=
  holds_succ (V17 := V.a19.view) (holds13_1 V) (tables0 V) (words14_eq V) (ring14_eq V) rfl

theorem words15_eq : words15 V = wordPieces (wordsT (lq V 0 15 (by omega) (by omega))) ++ (words11 V) := rfl

theorem ring15_eq : ring15 V = ringPieces V.a9.view V.a10.view V.a11.view V.a12.view V.a16.view (sL0 V) (nL0 V) (dL0 V) (mL0 V) (words15 V) 15 (by omega) (ring11 V) := by sl_kernel_rfl

theorem holds15_0 : Holds V 0 (by omega) 0 15 (by omega) (acc15_0 V) :=
  holds_succ (V17 := V.a20.view) (holds14_0 V) (tables0 V) (words15_eq V) (ring15_eq V) rfl

theorem holds15_1 : Holds V 0 (by omega) 1 15 (by omega) (acc15_1 V) :=
  holds_succ (V17 := V.a20.view) (holds14_1 V) (tables0 V) (words15_eq V) (ring15_eq V) rfl

theorem words16_eq : words16 V = wordPieces (wordsT (lq V 0 16 (by omega) (by omega))) ++ (words12 V) := rfl

theorem ring16_eq : ring16 V = ringPieces V.a9.view V.a10.view V.a11.view V.a12.view V.a13.view (sL0 V) (nL0 V) (dL0 V) (mL0 V) (words16 V) 16 (by omega) (ring12 V) := by sl_kernel_rfl

theorem holds16_0 : Holds V 0 (by omega) 0 16 (by omega) (acc16_0 V) :=
  holds_succ (V17 := V.a17.view) (holds15_0 V) (tables0 V) (words16_eq V) (ring16_eq V) rfl

theorem holds16_1 : Holds V 0 (by omega) 1 16 (by omega) (acc16_1 V) :=
  holds_succ (V17 := V.a17.view) (holds15_1 V) (tables0 V) (words16_eq V) (ring16_eq V) rfl

theorem words17_eq : words17 V = wordPieces (wordsT (lq V 0 17 (by omega) (by omega))) ++ (words13 V) := rfl

theorem ring17_eq : ring17 V = ringPieces V.a9.view V.a10.view V.a11.view V.a12.view V.a14.view (sL0 V) (nL0 V) (dL0 V) (mL0 V) (words17 V) 17 (by omega) (ring13 V) := by sl_kernel_rfl

theorem holds17_0 : Holds V 0 (by omega) 0 17 (by omega) (acc17_0 V) :=
  holds_succ (V17 := V.a18.view) (holds16_0 V) (tables0 V) (words17_eq V) (ring17_eq V) rfl

theorem holds17_1 : Holds V 0 (by omega) 1 17 (by omega) (acc17_1 V) :=
  holds_succ (V17 := V.a18.view) (holds16_1 V) (tables0 V) (words17_eq V) (ring17_eq V) rfl

theorem words18_eq : words18 V = wordPieces (wordsT (lq V 0 18 (by omega) (by omega))) ++ (words14 V) := rfl

theorem ring18_eq : ring18 V = ringPieces V.a9.view V.a10.view V.a11.view V.a12.view V.a15.view (sL0 V) (nL0 V) (dL0 V) (mL0 V) (words18 V) 18 (by omega) (ring14 V) := by sl_kernel_rfl

theorem holds18_0 : Holds V 0 (by omega) 0 18 (by omega) (acc18_0 V) :=
  holds_succ (V17 := V.a19.view) (holds17_0 V) (tables0 V) (words18_eq V) (ring18_eq V) rfl

theorem holds18_1 : Holds V 0 (by omega) 1 18 (by omega) (acc18_1 V) :=
  holds_succ (V17 := V.a19.view) (holds17_1 V) (tables0 V) (words18_eq V) (ring18_eq V) rfl

theorem words19_eq : words19 V = wordPieces (wordsT (lq V 0 19 (by omega) (by omega))) ++ (words15 V) := rfl

theorem ring19_eq : ring19 V = ringPieces V.a9.view V.a10.view V.a11.view V.a12.view V.a16.view (sL0 V) (nL0 V) (dL0 V) (mL0 V) (words19 V) 19 (by omega) (ring15 V) := by sl_kernel_rfl

/-- The last sum of tile 0, group pair 0. -/
def acc19_0 : FVec Ideal S64x256 .f32 := addf (acc18_0 V) (chunkPart V.a20.view (lx V 19 (by omega)) (ring19 V) 0)

theorem holds19_0 : Holds V 0 (by omega) 0 19 (by omega) (acc19_0 V) :=
  holds_succ (V17 := V.a20.view) (holds18_0 V) (tables0 V) (words19_eq V) (ring19_eq V) rfl

/-- The last sum of tile 0, group pair 1. -/
def acc19_1 : FVec Ideal S64x256 .f32 := addf (acc18_1 V) (chunkPart V.a20.view (lx V 19 (by omega)) (ring19 V) 1)

theorem holds19_1 : Holds V 0 (by omega) 1 19 (by omega) (acc19_1 V) :=
  holds_succ (V17 := V.a20.view) (holds18_1 V) (tables0 V) (words19_eq V) (ring19_eq V) rfl

end Cert.Tiles
-- ==== Proof.Tile1.lean ====
module

public import proofs.«01_k».proof.Proof.Steps

/-! Tile 1: the tables, code words, rings and accumulators that the run finds are the ones of `Steps`, chunk by chunk. -/

@[expose] public section

noncomputable section

namespace Cert.Tiles

open Idealize.ShloMosaic Cert.Words Cert.Ring

variable (V : Env)

theorem tables1 : Tables V 1 (by omega) (sL1 V) (nL1 V) (dL1 V) (mL1 V) :=
  tables_of V 1 (by omega) (s' := (sL0 V)) (n' := (nL0 V)) (d' := (dL0 V)) (m' := (mL0 V)) (by sl_kernel_rfl) (by sl_kernel_rfl) (by sl_kernel_rfl) (by sl_kernel_rfl)

theorem words20_eq : words20 V = wordPieces (wordsT (lq V 1 0 (by omega) (by omega))) ++ (words16 V) := rfl

theorem ring20_eq : ring20 V = ringPieces V.a9.view V.a10.view V.a11.view V.a12.view V.a13.view (sL1 V) (nL1 V) (dL1 V) (mL1 V) (words20 V) 0 (by omega) (ring16 V) := by sl_kernel_rfl

theorem holds20_0 : Holds V 1 (by omega) 0 0 (by omega) (acc20_0 V) :=
  holds_zero (V17 := V.a17.view) (tables1 V) (words20_eq V) (ring20_eq V) rfl

theorem holds20_1 : Holds V 1 (by omega) 1 0 (by omega) (acc20_1 V) :=
  holds_zero (V17 := V.a17.view) (tables1 V) (words20_eq V) (ring20_eq V) rfl

theorem words21_eq : words21 V = wordPieces (wordsT (lq V 1 1 (by omega) (by omega))) ++ (words17 V) := rfl

theorem ring21_eq : ring21 V = ringPieces V.a9.view V.a10.view V.a11.view V.a12.view V.a14.view (sL1 V) (nL1 V) (dL1 V) (mL1 V) (words21 V) 1 (by omega) (ring17 V) := by sl_kernel_rfl

theorem holds21_0 : Holds V 1 (by omega) 0 1 (by omega) (acc21_0 V) :=
  holds_succ (V17 := V.a18.view) (holds20_0 V) (tables1 V) (words21_eq V) (ring21_eq V) rfl

theorem holds21_1 : Holds V 1 (by omega) 1 1 (by omega) (acc21_1 V) :=
  holds_succ (V17 := V.a18.view) (holds20_1 V) (tables1 V) (words21_eq V) (ring21_eq V) rfl

theorem words22_eq : words22 V = wordPieces (wordsT (lq V 1 2 (by omega) (by omega))) ++ (words18 V) := rfl

theorem ring22_eq : ring22 V = ringPieces V.a9.view V.a10.view V.a11.view V.a12.view V.a15.view (sL1 V) (nL1 V) (dL1 V) (mL1 V) (words22 V) 2 (by omega) (ring18 V) := by sl_kernel_rfl

theorem holds22_0 : Holds V 1 (by omega) 0 2 (by omega) (acc22_0 V) :=
  holds_succ (V17 := V.a19.view) (holds21_0 V) (tables1 V) (words22_eq V) (ring22_eq V) rfl

theorem holds22_1 : Holds V 1 (by omega) 1 2 (by omega) (acc22_1 V) :=
  holds_succ (V17 := V.a19.view) (holds21_1 V) (tables1 V) (words22_eq V) (ring22_eq V) rfl

theorem words23_eq : words23 V = wordPieces (wordsT (lq V 1 3 (by omega) (by omega))) ++ (words19 V) := rfl

theorem ring23_eq : ring23 V = ringPieces V.a9.view V.a10.view V.a11.view V.a12.view V.a16.view (sL1 V) (nL1 V) (dL1 V) (mL1 V) (words23 V) 3 (by omega) (ring19 V) := by sl_kernel_rfl

theorem holds23_0 : Holds V 1 (by omega) 0 3 (by omega) (acc23_0 V) :=
  holds_succ (V17 := V.a20.view) (holds22_0 V) (tables1 V) (words23_eq V) (ring23_eq V) rfl

theorem holds23_1 : Holds V 1 (by omega) 1 3 (by omega) (acc23_1 V) :=
  holds_succ (V17 := V.a20.view) (holds22_1 V) (tables1 V) (words23_eq V) (ring23_eq V) rfl

theorem words24_eq : words24 V = wordPieces (wordsT (lq V 1 4 (by omega) (by omega))) ++ (words20 V) := rfl

theorem ring24_eq : ring24 V = ringPieces V.a9.view V.a10.view V.a11.view V.a12.view V.a13.view (sL1 V) (nL1 V) (dL1 V) (mL1 V) (words24 V) 4 (by omega) (ring20 V) := by sl_kernel_rfl

theorem holds24_0 : Holds V 1 (by omega) 0 4 (by omega) (acc24_0 V) :=
  holds_succ (V17 := V.a17.view) (holds23_0 V) (tables1 V) (words24_eq V) (ring24_eq V) rfl

theorem holds24_1 : Holds V 1 (by omega) 1 4 (by omega) (acc24_1 V) :=
  holds_succ (V17 := V.a17.view) (holds23_1 V) (tables1 V) (words24_eq V) (ring24_eq V) rfl

theorem words25_eq : words25 V = wordPieces (wordsT (lq V 1 5 (by omega) (by omega))) ++ (words21 V) := rfl

theorem ring25_eq : ring25 V = ringPieces V.a9.view V.a10.view V.a11.view V.a12.view V.a14.view (sL1 V) (nL1 V) (dL1 V) (mL1 V) (words25 V) 5 (by omega) (ring21 V) := by sl_kernel_rfl

theorem holds25_0 : Holds V 1 (by omega) 0 5 (by omega) (acc25_0 V) :=
  holds_succ (V17 := V.a18.view) (holds24_0 V) (tables1 V) (words25_eq V) (ring25_eq V) rfl

theorem holds25_1 : Holds V 1 (by omega) 1 5 (by omega) (acc25_1 V) :=
  holds_succ (V17 := V.a18.view) (holds24_1 V) (tables1 V) (words25_eq V) (ring25_eq V) rfl

theorem words26_eq : words26 V = wordPieces (wordsT (lq V 1 6 (by omega) (by omega))) ++ (words22 V) := rfl

theorem ring26_eq : ring26 V = ringPieces V.a9.view V.a10.view V.a11.view V.a12.view V.a15.view (sL1 V) (nL1 V) (dL1 V) (mL1 V) (words26 V) 6 (by omega) (ring22 V) := by sl_kernel_rfl

theorem holds26_0 : Holds V 1 (by omega) 0 6 (by omega) (acc26_0 V) :=
  holds_succ (V17 := V.a19.view) (holds25_0 V) (tables1 V) (words26_eq V) (ring26_eq V) rfl

theorem holds26_1 : Holds V 1 (by omega) 1 6 (by omega) (acc26_1 V) :=
  holds_succ (V17 := V.a19.view) (holds25_1 V) (tables1 V) (words26_eq V) (ring26_eq V) rfl

theorem words27_eq : words27 V = wordPieces (wordsT (lq V 1 7 (by omega) (by omega))) ++ (words23 V) := rfl

theorem ring27_eq : ring27 V = ringPieces V.a9.view V.a10.view V.a11.view V.a12.view V.a16.view (sL1 V) (nL1 V) (dL1 V) (mL1 V) (words27 V) 7 (by omega) (ring23 V) := by sl_kernel_rfl

theorem holds27_0 : Holds V 1 (by omega) 0 7 (by omega) (acc27_0 V) :=
  holds_succ (V17 := V.a20.view) (holds26_0 V) (tables1 V) (words27_eq V) (ring27_eq V) rfl

theorem holds27_1 : Holds V 1 (by omega) 1 7 (by omega) (acc27_1 V) :=
  holds_succ (V17 := V.a20.view) (holds26_1 V) (tables1 V) (words27_eq V) (ring27_eq V) rfl

theorem words28_eq : words28 V = wordPieces (wordsT (lq V 1 8 (by omega) (by omega))) ++ (words24 V) := rfl

theorem ring28_eq : ring28 V = ringPieces V.a9.view V.a10.view V.a11.view V.a12.view V.a13.view (sL1 V) (nL1 V) (dL1 V) (mL1 V) (words28 V) 8 (by omega) (ring24 V) := by sl_kernel_rfl

theorem holds28_0 : Holds V 1 (by omega) 0 8 (by omega) (acc28_0 V) :=
  holds_succ (V17 := V.a17.view) (holds27_0 V) (tables1 V) (words28_eq V) (ring28_eq V) rfl

theorem holds28_1 : Holds V 1 (by omega) 1 8 (by omega) (acc28_1 V) :=
  holds_succ (V17 := V.a17.view) (holds27_1 V) (tables1 V) (words28_eq V) (ring28_eq V) rfl

theorem words29_eq : words29 V = wordPieces (wordsT (lq V 1 9 (by omega) (by omega))) ++ (words25 V) := rfl

theorem ring29_eq : ring29 V = ringPieces V.a9.view V.a10.view V.a11.view V.a12.view V.a14.view (sL1 V) (nL1 V) (dL1 V) (mL1 V) (words29 V) 9 (by omega) (ring25 V) := by sl_kernel_rfl

theorem holds29_0 : Holds V 1 (by omega) 0 9 (by omega) (acc29_0 V) :=
  holds_succ (V17 := V.a18.view) (holds28_0 V) (tables1 V) (words29_eq V) (ring29_eq V) rfl

theorem holds29_1 : Holds V 1 (by omega) 1 9 (by omega) (acc29_1 V) :=
  holds_succ (V17 := V.a18.view) (holds28_1 V) (tables1 V) (words29_eq V) (ring29_eq V) rfl

theorem words30_eq : words30 V = wordPieces (wordsT (lq V 1 10 (by omega) (by omega))) ++ (words26 V) := rfl

theorem ring30_eq : ring30 V = ringPieces V.a9.view V.a10.view V.a11.view V.a12.view V.a15.view (sL1 V) (nL1 V) (dL1 V) (mL1 V) (words30 V) 10 (by omega) (ring26 V) := by sl_kernel_rfl

theorem holds30_0 : Holds V 1 (by omega) 0 10 (by omega) (acc30_0 V) :=
  holds_succ (V17 := V.a19.view) (holds29_0 V) (tables1 V) (words30_eq V) (ring30_eq V) rfl

theorem holds30_1 : Holds V 1 (by omega) 1 10 (by omega) (acc30_1 V) :=
  holds_succ (V17 := V.a19.view) (holds29_1 V) (tables1 V) (words30_eq V) (ring30_eq V) rfl

theorem words31_eq : words31 V = wordPieces (wordsT (lq V 1 11 (by omega) (by omega))) ++ (words27 V) := rfl

theorem ring31_eq : ring31 V = ringPieces V.a9.view V.a10.view V.a11.view V.a12.view V.a16.view (sL1 V) (nL1 V) (dL1 V) (mL1 V) (words31 V) 11 (by omega) (ring27 V) := by sl_kernel_rfl

theorem holds31_0 : Holds V 1 (by omega) 0 11 (by omega) (acc31_0 V) :=
  holds_succ (V17 := V.a20.view) (holds30_0 V) (tables1 V) (words31_eq V) (ring31_eq V) rfl

theorem holds31_1 : Holds V 1 (by omega) 1 11 (by omega) (acc31_1 V) :=
  holds_succ (V17 := V.a20.view) (holds30_1 V) (tables1 V) (words31_eq V) (ring31_eq V) rfl

theorem words32_eq : words32 V = wordPieces (wordsT (lq V 1 12 (by omega) (by omega))) ++ (words28 V) := rfl

theorem ring32_eq : ring32 V = ringPieces V.a9.view V.a10.view V.a11.view V.a12.view V.a13.view (sL1 V) (nL1 V) (dL1 V) (mL1 V) (words32 V) 12 (by omega) (ring28 V) := by sl_kernel_rfl

theorem holds32_0 : Holds V 1 (by omega) 0 12 (by omega) (acc32_0 V) :=
  holds_succ (V17 := V.a17.view) (holds31_0 V) (tables1 V) (words32_eq V) (ring32_eq V) rfl

theorem holds32_1 : Holds V 1 (by omega) 1 12 (by omega) (acc32_1 V) :=
  holds_succ (V17 := V.a17.view) (holds31_1 V) (tables1 V) (words32_eq V) (ring32_eq V) rfl

theorem words33_eq : words33 V = wordPieces (wordsT (lq V 1 13 (by omega) (by omega))) ++ (words29 V) := rfl

theorem ring33_eq : ring33 V = ringPieces V.a9.view V.a10.view V.a11.view V.a12.view V.a14.view (sL1 V) (nL1 V) (dL1 V) (mL1 V) (words33 V) 13 (by omega) (ring29 V) := by sl_kernel_rfl

theorem holds33_0 : Holds V 1 (by omega) 0 13 (by omega) (acc33_0 V) :=
  holds_succ (V17 := V.a18.view) (holds32_0 V) (tables1 V) (words33_eq V) (ring33_eq V) rfl

theorem holds33_1 : Holds V 1 (by omega) 1 13 (by omega) (acc33_1 V) :=
  holds_succ (V17 := V.a18.view) (holds32_1 V) (tables1 V) (words33_eq V) (ring33_eq V) rfl

theorem words34_eq : words34 V = wordPieces (wordsT (lq V 1 14 (by omega) (by omega))) ++ (words30 V) := rfl

theorem ring34_eq : ring34 V = ringPieces V.a9.view V.a10.view V.a11.view V.a12.view V.a15.view (sL1 V) (nL1 V) (dL1 V) (mL1 V) (words34 V) 14 (by omega) (ring30 V) := by sl_kernel_rfl

theorem holds34_0 : Holds V 1 (by omega) 0 14 (by omega) (acc34_0 V) :=
  holds_succ (V17 := V.a19.view) (holds33_0 V) (tables1 V) (words34_eq V) (ring34_eq V) rfl

theorem holds34_1 : Holds V 1 (by omega) 1 14 (by omega) (acc34_1 V) :=
  holds_succ (V17 := V.a19.view) (holds33_1 V) (tables1 V) (words34_eq V) (ring34_eq V) rfl

theorem words35_eq : words35 V = wordPieces (wordsT (lq V 1 15 (by omega) (by omega))) ++ (words31 V) := rfl

theorem ring35_eq : ring35 V = ringPieces V.a9.view V.a10.view V.a11.view V.a12.view V.a16.view (sL1 V) (nL1 V) (dL1 V) (mL1 V) (words35 V) 15 (by omega) (ring31 V) := by sl_kernel_rfl

theorem holds35_0 : Holds V 1 (by omega) 0 15 (by omega) (acc35_0 V) :=
  holds_succ (V17 := V.a20.view) (holds34_0 V) (tables1 V) (words35_eq V) (ring35_eq V) rfl

theorem holds35_1 : Holds V 1 (by omega) 1 15 (by omega) (acc35_1 V) :=
  holds_succ (V17 := V.a20.view) (holds34_1 V) (tables1 V) (words35_eq V) (ring35_eq V) rfl

theorem words36_eq : words36 V = wordPieces (wordsT (lq V 1 16 (by omega) (by omega))) ++ (words32 V) := rfl

theorem ring36_eq : ring36 V = ringPieces V.a9.view V.a10.view V.a11.view V.a12.view V.a13.view (sL1 V) (nL1 V) (dL1 V) (mL1 V) (words36 V) 16 (by omega) (ring32 V) := by sl_kernel_rfl

theorem holds36_0 : Holds V 1 (by omega) 0 16 (by omega) (acc36_0 V) :=
  holds_succ (V17 := V.a17.view) (holds35_0 V) (tables1 V) (words36_eq V) (ring36_eq V) rfl

theorem holds36_1 : Holds V 1 (by omega) 1 16 (by omega) (acc36_1 V) :=
  holds_succ (V17 := V.a17.view) (holds35_1 V) (tables1 V) (words36_eq V) (ring36_eq V) rfl

theorem words37_eq : words37 V = wordPieces (wordsT (lq V 1 17 (by omega) (by omega))) ++ (words33 V) := rfl

theorem ring37_eq : ring37 V = ringPieces V.a9.view V.a10.view V.a11.view V.a12.view V.a14.view (sL1 V) (nL1 V) (dL1 V) (mL1 V) (words37 V) 17 (by omega) (ring33 V) := by sl_kernel_rfl

theorem holds37_0 : Holds V 1 (by omega) 0 17 (by omega) (acc37_0 V) :=
  holds_succ (V17 := V.a18.view) (holds36_0 V) (tables1 V) (words37_eq V) (ring37_eq V) rfl

theorem holds37_1 : Holds V 1 (by omega) 1 17 (by omega) (acc37_1 V) :=
  holds_succ (V17 := V.a18.view) (holds36_1 V) (tables1 V) (words37_eq V) (ring37_eq V) rfl

theorem words38_eq : words38 V = wordPieces (wordsT (lq V 1 18 (by omega) (by omega))) ++ (words34 V) := rfl

theorem ring38_eq : ring38 V = ringPieces V.a9.view V.a10.view V.a11.view V.a12.view V.a15.view (sL1 V) (nL1 V) (dL1 V) (mL1 V) (words38 V) 18 (by omega) (ring34 V) := by sl_kernel_rfl

theorem holds38_0 : Holds V 1 (by omega) 0 18 (by omega) (acc38_0 V) :=
  holds_succ (V17 := V.a19.view) (holds37_0 V) (tables1 V) (words38_eq V) (ring38_eq V) rfl

theorem holds38_1 : Holds V 1 (by omega) 1 18 (by omega) (acc38_1 V) :=
  holds_succ (V17 := V.a19.view) (holds37_1 V) (tables1 V) (words38_eq V) (ring38_eq V) rfl

theorem words39_eq : words39 V = wordPieces (wordsT (lq V 1 19 (by omega) (by omega))) ++ (words35 V) := rfl

theorem ring39_eq : ring39 V = ringPieces V.a9.view V.a10.view V.a11.view V.a12.view V.a16.view (sL1 V) (nL1 V) (dL1 V) (mL1 V) (words39 V) 19 (by omega) (ring35 V) := by sl_kernel_rfl

theorem holds39_0 : Holds V 1 (by omega) 0 19 (by omega) (acc39_0 V) :=
  holds_succ (V17 := V.a20.view) (holds38_0 V) (tables1 V) (words39_eq V) (ring39_eq V) rfl

/-- The last sum of tile 1, group pair 1. -/
def acc39_1 : FVec Ideal S64x256 .f32 := addf (acc38_1 V) (chunkPart V.a20.view (lx V 19 (by omega)) (ring39 V) 1)

theorem holds39_1 : Holds V 1 (by omega) 1 19 (by omega) (acc39_1 V) :=
  holds_succ (V17 := V.a20.view) (holds38_1 V) (tables1 V) (words39_eq V) (ring39_eq V) rfl

end Cert.Tiles
-- ==== Proof.Out.lean ====
module

public import proofs.«01_k».proof.Proof.Tile0
public import proofs.«01_k».proof.Proof.Tile1

/-! The output block of one grid point: its two tiles are the accumulators with their columns put in order. -/

@[expose] public section

noncomputable section

namespace Cert.Tiles

open Idealize.ShloMosaic Cert.Words Cert.Ring

abbrev S64x512 : Shape := ⟨2, ![64, 512]⟩
abbrev S512x512 : Shape := ⟨2, ![512, 512]⟩

theorem cc512 : Shape.Concatenates [S64x256, S64x256] S64x512 1 := by decide
theorem c512 : S512x512.ShapeCasts S512x512 := by decide
theorem bl : FTy.bits .bf16 < FTy.bits .f32 := by decide

/-- Two accumulators side by side, their columns put in order by a product with a permutation. -/
def finish (a b : FVec Ideal S64x256 .f32) (perm : Vec Ideal S512x512 .bf16) : FVec Ideal S64x512 .bf16 :=
  truncf .bf16 (matmul (DotDims.plain 64 512 512) none (φ₁ := .bf16) (φ₂ := .bf16)
    (truncf .bf16 (concatenate S64x512 1 [⟨S64x256, a⟩, ⟨S64x256, b⟩] cc512) bl)
    (shapeCast S512x512 perm c512) (constant S64x512 .f32 0x00000000#32)) bl

/-- The permutation: column `128 b + r` goes to column `4 r + b`. -/
def IsPerm (perm : Vec Ideal S512x512 .bf16) : Prop :=
  ∀ j n : Fin 512, (perm (ix2 j n) : EReal) = if 4 * (j.val % 128) + j.val / 128 = n.val then 1 else 0

theorem side_apply (a b : FVec Ideal S64x256 .f32) (p : Fin 2) (m : Fin 64) (j : Fin 256) :
    (concatenate S64x512 1 [⟨S64x256, a⟩, ⟨S64x256, b⟩] cc512 (ix2 m ⟨256 * p.val + j.val, by omega⟩) : EReal) = (if p = 0 then a else b) (ix2 m j) := by
  have h : p = 0 ∨ p = 1 := by omega
  rcases h with rfl | rfl <;> pointwise

theorem finish_apply (a b : FVec Ideal S64x256 .f32) (perm : Vec Ideal S512x512 .bf16) (hp : IsPerm perm) (m : Fin 64) (p g : Fin 2) (q : Fin 128) :
    (finish a b perm (ix2 m ⟨4 * q.val + (2 * p.val + g.val), by omega⟩) : EReal) = (if p = 0 then a else b) (ix2 m ⟨128 * g.val + q.val, by omega⟩) := by
  obtain ⟨n, hn⟩ : ∃ n : Fin 512, n.val = 4 * q.val + (2 * p.val + g.val) := ⟨⟨4 * q.val + (2 * p.val + g.val), by omega⟩, rfl⟩
  have h1 : (finish a b perm (ix2 m n) : EReal)
      = ∑ k : Fin 512, (concatenate S64x512 1 [⟨S64x256, a⟩, ⟨S64x256, b⟩] cc512 (ix2 m k) : EReal) * perm (ix2 k n) := by
    refine (Ideal.matmul_plain_apply none _ _ _ m n).trans ?_
    have h0 : (constant (F := Ideal) S64x512 .f32 0x00000000#32 (ix2 m n) : EReal) = 0 := Ideal.ofBits_zero_f32
    have hx : ∀ k : Fin 512, (shapeCast S512x512 perm c512 (ix2 k n) : EReal) = perm (ix2 k n) := fun k => by pointwise
    refine (congrArg (fun u : EReal => u + _) h0).trans ((zero_add _).trans (Finset.sum_congr rfl fun k _ => congrArg (fun u : EReal => _ * u) (hx k)))
  have e : (⟨4 * q.val + (2 * p.val + g.val), by omega⟩ : Fin 512) = n := Fin.ext hn.symm
  rw [e, h1, Finset.sum_eq_single (⟨256 * p.val + (⟨128 * g.val + q.val, by omega⟩ : Fin 256).val, by simp only []; omega⟩ : Fin 512)]
  · rw [hp, if_pos (show 4 * ((256 * p.val + (128 * g.val + q.val)) % 128) + (256 * p.val + (128 * g.val + q.val)) / 128 = n.val by omega), mul_one]
    exact side_apply a b p m ⟨128 * g.val + q.val, by omega⟩
  · intro k _ hk
    rw [hp, if_neg, mul_zero]
    intro he
    exact hk (Fin.ext (show k.val = 256 * p.val + (128 * g.val + q.val) by omega))
  · intro h; exact absurd (Finset.mem_univ _) h

variable (V : Env)

theorem lp_inb : ∀ a, (![0, 0] : Fin 2 → Nat) a + S512x512.size a ≤ KernelIdeal.S512x512.size a := by
  intro a; fin_cases a <;> exact Nat.le_of_eq (Nat.zero_add _)

/-- The permutation as loaded. -/
def lp : Vec Ideal S512x512 .bf16 :=
  View.readAt (Elt Ideal) V.a7.view (Rect.unit (s := KernelIdeal.S512x512) ![0, 0] S512x512.size lp_inb).toLoadRect (V.h7.unread V.x6)

theorem lp_eq : lp V = V.x6 := by
  funext y
  refine (congrFun (V.h7.read_unread V.x6) _).trans (congrArg V.x6 ?_)
  funext a
  exact Fin.ext (by fin_cases a <;> exact (Nat.zero_add _).trans (Nat.one_mul _))

theorem ob_inb (t : Nat) (ht : t < 2) : ∀ a, (![0, 512 * t] : Fin 2 → Nat) a + S64x512.size a ≤ KernelIdeal.S64x1024.size a := by
  intro a; fin_cases a
  · show 0 + 64 ≤ 64; omega
  · show 512 * t + 512 ≤ 1024; omega

/-- A tile of the output: row `m` of `x` times row `n` of the tile's weights. -/
theorem tile_value (t : Nat) (ht : t < 2) (a b : FVec Ideal S64x256 .f32) (ha : Holds V t ht 0 19 (by omega) a) (hb : Holds V t ht 1 19 (by omega) b)
    (hp : IsPerm V.x6) (m : Fin 64) (n : Fin 512) : (finish a b (lp V) (ix2 m n) : EReal) = partSum V t ht n m 19 (by omega) := by
  rw [lp_eq]
  obtain ⟨p, g, q, rfl⟩ : ∃ (p g : Fin 2) (q : Fin 128), n = ⟨4 * q.val + (2 * p.val + g.val), by omega⟩ :=
    ⟨⟨n.val % 4 / 2, by omega⟩, ⟨n.val % 2, by omega⟩, ⟨n.val / 4, by omega⟩, Fin.ext (show n.val = 4 * (n.val / 4) + (2 * (n.val % 4 / 2) + n.val % 2) by omega)⟩
  rw [finish_apply a b V.x6 hp m p g q]
  have h : p = 0 ∨ p = 1 := by omega
  rcases h with rfl | rfl
  · exact ha g m q
  · exact hb g m q

/-- Two tiles beside each other. -/
def twoTiles (f0 f1 : FVec Ideal S64x512 .bf16) : List (View.Piece (Elt Ideal) KernelIdeal.S64x1024 .bf16) :=
  [⟨Rect.unit (s := KernelIdeal.S64x1024) ![0, 512 * 1] S64x512.size (ob_inb 1 (by omega)), f1⟩,
   ⟨Rect.unit (s := KernelIdeal.S64x1024) ![0, 512 * 0] S64x512.size (ob_inb 0 (by omega)), f0⟩]

theorem canon_tile (o : Nat) (hi : ∀ a, (![0, o] : Fin 2 → Nat) a + S64x512.size a ≤ KernelIdeal.S64x1024.size a) (f : S64x512.Idx → Elt Ideal .bf16)
    (L : List (View.Piece (Elt Ideal) KernelIdeal.S64x1024 .bf16)) (m : Fin 64) (n : Fin 512) (hn : o + n.val < 1024) :
    View.canon (⟨Rect.unit (s := KernelIdeal.S64x1024) ![0, o] S64x512.size hi, f⟩ :: L) (ix2 m ⟨o + n.val, hn⟩) = f (ix2 m n) := by
  refine canon_cons_at (e := .bf16) (Rect.unit (s := KernelIdeal.S64x1024) ![0, o] S64x512.size hi) f L (ix2 m n) (ix2 m ⟨o + n.val, hn⟩) ?_
  intro a; fin_cases a
  · show m.val = 0 + 1 * m.val; omega
  · show o + n.val = o + 1 * n.val; omega

theorem canon_other (o p : Nat) (hi : ∀ a, (![0, o] : Fin 2 → Nat) a + S64x512.size a ≤ KernelIdeal.S64x1024.size a) (f : S64x512.Idx → Elt Ideal .bf16)
    (L : List (View.Piece (Elt Ideal) KernelIdeal.S64x1024 .bf16)) (m : Fin 64) (hp : p < o) (hn : p < 1024) :
    View.canon (⟨Rect.unit (s := KernelIdeal.S64x1024) ![0, o] S64x512.size hi, f⟩ :: L) (ix2 m ⟨p, hn⟩) = View.canon L (ix2 m ⟨p, hn⟩) := by
  refine canon_cons_off (e := .bf16) (Rect.unit (s := KernelIdeal.S64x1024) ![0, o] S64x512.size hi) f L (ix2 m ⟨p, hn⟩) 1 ?_
  intro j _
  show p ≠ o + 1 * j
  omega

theorem twoTiles_left (f0 f1 : FVec Ideal S64x512 .bf16) (m : Fin 64) (n : Fin 512) :
    View.canon (twoTiles f0 f1) (ix2 m ⟨512 * 0 + n.val, by omega⟩) = f0 (ix2 m n) :=
  (canon_other (512 * 1) (512 * 0 + n.val) _ f1 _ m (by omega) (by omega)).trans (canon_tile (512 * 0) _ f0 [] m n (by omega))

theorem twoTiles_right (f0 f1 : FVec Ideal S64x512 .bf16) (m : Fin 64) (n : Fin 512) :
    View.canon (twoTiles f0 f1) (ix2 m ⟨512 * 1 + n.val, by omega⟩) = f1 (ix2 m n) :=
  canon_tile (512 * 1) _ f1 _ m n (by omega)

theorem outPieces_eq : outPieces V = twoTiles (finish (acc19_0 V) (acc19_1 V) (lp V)) (finish (acc39_0 V) (acc39_1 V) (lp V)) := by sl_kernel_rfl

/-- The output block. -/
theorem out_value (hp : IsPerm V.x6) (t : Nat) (ht : t < 2) (m : Fin 64) (n : Fin 512) :
    (View.canon (outPieces V) (ix2 m ⟨512 * t + n.val, by omega⟩) : EReal) = partSum V t ht n m 19 (by omega) := by
  have h : t = 0 ∨ t = 1 := by omega
  rcases h with rfl | rfl
  · exact (congrFun (congrArg View.canon (outPieces_eq V)) _).trans ((twoTiles_left _ _ m n).trans (tile_value V 0 ht _ _ (holds19_0 V) (holds19_1 V) hp m n))
  · exact (congrFun (congrArg View.canon (outPieces_eq V)) _).trans ((twoTiles_right _ _ m n).trans (tile_value V 1 ht _ _ (holds39_0 V) (holds39_1 V) hp m n))

end Cert.Tiles
-- ==== Proof.Perm.lean ====
module

public import proofs.«01_k».proof.Proof.Out
public import proofs.«01_k».proof.Proof.Gen.KernelIdeal.Value
public import Idealize.ShloMosaic.Lib.StableHlo.Run

@[expose] public section

noncomputable section

namespace Cert.Tiles

open Idealize.ShloMosaic Cert.KernelIdeal Cert.KernelIdeal.Gen Idealize.ShloMosaic.StableHlo Idealize.ShloMosaic.TcCoe

variable (m : (ℓ : Loc nD τ sig) → Buf (Elt Ideal) ℓ)

/-- The rows of `x`, as the kernel finds them. -/
theorem V_x2 (c : Dev nD) : Gen.V m c main_v0 = shapeCast (KernelIdeal.S64x5120) (m ((c.tc : Thread nD τ).loc main_arg0)) shapeCasts_S64x1x5120_S64x5120 := by
  show StableHlo.after (List.flatten [hostOps0, hostOps0_1, hostOps0_2, hostOps0_3, hostOps0_4]) (fun b => m (c, b)) (Proc.devRef .tc main_v0) = _
  simp only [hostOps0, hostOps0_1, hostOps0_2, hostOps0_3, hostOps0_4, List.flatten_cons, List.flatten_nil, List.append_nil, List.cons_append, List.nil_append]
  after_results <;> rfl

/-- The row numbers `0 … 511`. -/
def rowIdx : IVec S512x1 32 := broadcastInDim S512x1 ![0] bcast_S512_S512x1_0 (iotaInDim S512 32 0)

/-- The divisor of the remainder: 128. -/
def remDiv : IVec S_ 32 := select (cmpi .eq (constantI S_ 32 128#32) (constantI S_ 32 0#32)) (constantI S_ 32 1#32) (constantI S_ 32 128#32)

/-- The row number modulo 128. -/
def rowRem : IVec S512x1 32 :=
  select (andi (cmpi .ne (cmpi .slt (Host.remsi rowIdx (broadcastInDim S512x1 ![] bcast_S_S512x1 (remDiv))) (broadcastInDim S512x1 ![] bcast_S_S512x1 (constantI S_ 32 0#32))) (broadcastInDim S512x1 ![] bcast_S_S512x1 (cmpi .slt remDiv (constantI S_ 32 0#32)))) (cmpi .ne (Host.remsi rowIdx (broadcastInDim S512x1 ![] bcast_S_S512x1 (remDiv))) (broadcastInDim S512x1 ![] bcast_S_S512x1 (constantI S_ 32 0#32))))
    (addi (Host.remsi rowIdx (broadcastInDim S512x1 ![] bcast_S_S512x1 (remDiv))) (broadcastInDim S512x1 ![] bcast_S_S512x1 (remDiv))) (Host.remsi rowIdx (broadcastInDim S512x1 ![] bcast_S_S512x1 (remDiv)))

/-- The row number divided by 128. -/
def rowDiv : IVec S512x1 32 :=
  select (andi (cmpi .ne (signi rowIdx) (broadcastInDim S512x1 ![] bcast_S_S512x1 (signi (constantI S_ 32 128#32)))) (cmpi .ne (Host.remsi rowIdx (broadcastInDim S512x1 ![] bcast_S_S512x1 (constantI S_ 32 128#32))) (broadcastInDim S512x1 ![] bcast_S_S512x1 (constantI S_ 32 0#32))))
    (subi (Host.divsi rowIdx (broadcastInDim S512x1 ![] bcast_S_S512x1 (constantI S_ 32 128#32))) (broadcastInDim S512x1 ![] bcast_S_S512x1 (constantI S_ 32 1#32))) (Host.divsi rowIdx (broadcastInDim S512x1 ![] bcast_S_S512x1 (constantI S_ 32 128#32)))

/-- The column that every row is sent to. -/
def rowTo : IVec S512x1 32 := addi (muli (broadcastInDim S512x1 ![] bcast_S_S512x1 (constantI S_ 32 4#32)) rowRem) rowDiv

/-- The permutation, as the kernel finds it. -/
theorem V_perm (c : Dev nD) : Gen.V m c main_v13 = (uitofp .bf16 (cmpi .eq (broadcastInDim KernelIdeal.S512x512 ![0, 1] bcast_S512x1_S512x512_0_1 rowTo)
    (broadcastInDim KernelIdeal.S512x512 ![0, 1] bcast_S1x512_S512x512_0_1 (broadcastInDim S1x512 ![1] bcast_S512_S1x512_1 (iotaInDim S512 32 0)))) : FVec Ideal KernelIdeal.S512x512 .bf16) := by
  show StableHlo.after (List.flatten [hostOps0, hostOps0_1, hostOps0_2, hostOps0_3, hostOps0_4]) (fun b => m (c, b)) (Proc.devRef .tc main_v13) = _
  simp only [hostOps0, hostOps0_1, hostOps0_2, hostOps0_3, hostOps0_4, List.flatten_cons, List.flatten_nil, List.append_nil, List.cons_append, List.nil_append]
  after_results_simp
  rfl

theorem rowTo_apply (j : Fin 512) : rowTo (ix2 j (0 : Fin 1)) = BitVec.ofNat 32 (4 * (j.val % 128) + j.val / 128) := by
  pointwise [rowTo, rowRem, rowDiv, rowIdx, remDiv]
  revert j
  decide +kernel

theorem perm_isPerm (c : Dev nD) : IsPerm (Gen.V m c main_v13 : FVec Ideal KernelIdeal.S512x512 .bf16) := by
  intro j n
  have h := congrFun (V_perm m c) (ix2 j n)
  refine h.trans ?_
  have hb : (cmpi .eq (broadcastInDim KernelIdeal.S512x512 ![0, 1] bcast_S512x1_S512x512_0_1 rowTo)
    (broadcastInDim KernelIdeal.S512x512 ![0, 1] bcast_S1x512_S512x512_0_1 (broadcastInDim S1x512 ![1] bcast_S512_S1x512_1 (iotaInDim S512 32 0)))) (ix2 j n)
    = IntOp.cmpi .eq (rowTo (ix2 j (0 : Fin 1))) (BitVec.ofNat 32 n.val) := by
    pointwise
  refine (congrArg (fun w => (((w.toNat : ℝ)) : EReal)) hb).trans ?_
  rw [rowTo_apply]
  have hq : (BitVec.ofNat 32 (4 * (j.val % 128) + j.val / 128) = BitVec.ofNat 32 n.val) ↔ 4 * (j.val % 128) + j.val / 128 = n.val := by
    constructor
    · intro e
      have e' := congrArg BitVec.toNat e
      rw [BitVec.toNat_ofNat, BitVec.toNat_ofNat] at e'
      omega
    · intro e; rw [e]
  unfold IntOp.cmpi
  by_cases h2 : 4 * (j.val % 128) + j.val / 128 = n.val
  · simp [h2]
  · have h3 := fun e => h2 (hq.mp e)
    simp [h2]
    exact h3

end Cert.Tiles
-- ==== Proof.Spec.lean ====
module

public import proofs.«01_k».proof.Proof.Steps

/-! The product that both programs compute: `x` times the decoded rows of weights. -/

@[expose] public section

noncomputable section

namespace Cert.Spec

open Idealize.ShloMosaic Cert.Words

variable (x : Fin 64 → Fin 5120 → EReal) (qs : Fin 27648 → Fin 2560 → BitVec 8) (d dm : Fin 27648 → Fin 20 → BitVec 16) (sc mn : Fin 27648 → Fin 160 → BitVec 8)

/-- The decoded weight of row `o` and column `k`. -/
def wgt (o : Fin 27648) (k : Fin 5120) : EReal :=
  ((nib (k.val / 32 % 2) (qs o ⟨32 * (k.val / 64) + k.val % 32, by omega⟩) : ℝ) : EReal)
      * (Ideal.ieee 5 10 (d o ⟨k.val / 256, by omega⟩) * (((sc o ⟨k.val / 32, by omega⟩).toNat : ℝ) : EReal))
    - Ideal.ieee 5 10 (dm o ⟨k.val / 256, by omega⟩) * (((mn o ⟨k.val / 32, by omega⟩).toNat : ℝ) : EReal)

/-- The product. -/
def out (s : Fin 64) (o : Fin 27648) : EReal := ∑ k : Fin 5120, x s k * wgt qs d dm sc mn o k

/-- A word that is not a half-precision NaN of negative sign. -/
def Fine (w : BitVec 16) : Prop := 0 ≤ w.toInt ∨ w.toInt ≤ -1024

theorem ieee_512 : Ideal.ieee 8 23 0x44000000#32 = ((512 : ℝ) : EReal) := by
  simp [Ideal.ieee, -EReal.coe_mul]; norm_num

theorem ieee_one : Ideal.ieee 8 23 0x3F800000#32 = 1 := Ideal.ofBits_one_f32

theorem scale_cancel (q s : ℝ) (h : EReal) : ((q / 512 : ℝ) : EReal) * ((s : EReal) * (h * ((512 : ℝ) : EReal))) = (q : EReal) * (h * (s : EReal)) := by
  have e : ((q / 512 : ℝ) : EReal) * ((512 : ℝ) : EReal) = (q : EReal) := by
    rw [← EReal.coe_mul]; congr 1; field_simp
  rw [← mul_assoc (s : EReal), mul_comm ((s : EReal) * h) _, ← mul_assoc, e, mul_comm (s : EReal) h]

end Cert.Spec
-- ==== Proof.Kern.lean ====
module

public import proofs.«01_k».proof.Proof.Perm
public import proofs.«01_k».proof.Proof.Spec
public import Idealize.ShloMosaic.Lib.Pipeline.ValueKit

/-! The kernel's result array. -/

@[expose] public section

noncomputable section

namespace Cert.Tiles

open Idealize.ShloMosaic Cert.KernelIdeal Cert.KernelIdeal.Gen Idealize.ShloMosaic.TcCoe

variable (m : (ℓ : Loc nD τ sig) → Buf (Elt Ideal) ℓ)

/-- The data of one grid point. -/
def envAt (c : Dev nD) (t : Fin cfg0.N) : Env where
  c := c
  i := grid0.coords t
  a1 := ms0_0 t
  h1 := hs0_0 t
  a2 := ms0_1 t
  h2 := hs0_1 t
  a3 := ms0_2 t
  h3 := hs0_2 t
  a4 := ms0_3 t
  h4 := hs0_3 t
  a5 := ms0_4 t
  h5 := hs0_4 t
  a6 := ms0_5 t
  h6 := hs0_5 t
  a7 := ms0_6 t
  h7 := hs0_6 t
  a8 := ms0_7 t
  h8 := hs0_7 t
  a9 := scM0_0
  h9 := Memref.isWhole_whole _
  a10 := scM0_1
  h10 := Memref.isWhole_whole _
  a11 := scM0_2
  h11 := Memref.isWhole_whole _
  a12 := scM0_3
  h12 := Memref.isWhole_whole _
  a13 := scM0_4
  h13 := Memref.isWhole_whole _
  a14 := scM0_5
  h14 := Memref.isWhole_whole _
  a15 := scM0_6
  h15 := Memref.isWhole_whole _
  a16 := scM0_7
  h16 := Memref.isWhole_whole _
  a17 := scM0_8
  h17 := Memref.isWhole_whole _
  a18 := scM0_9
  h18 := Memref.isWhole_whole _
  a19 := scM0_10
  h19 := Memref.isWhole_whole _
  a20 := scM0_11
  h20 := Memref.isWhole_whole _
  x0 := iblk m c 0 t
  x1 := iblk m c 1 t
  x2 := iblk m c 2 t
  x3 := iblk m c 3 t
  x4 := iblk m c 4 t
  x5 := iblk m c 5 t
  x6 := iblk m c 6 t

theorem out_eq (c : Dev nD) (i : grid0.Coords) (a1 : Memref sig .tc .vmem S64x5120 .bf16) (h1 : a1.IsWhole) (a2 : Memref sig .tc .vmem S1024x2560 .i8) (h2 : a2.IsWhole) (a3 : Memref sig .tc .vmem S1024x20 .i16) (h3 : a3.IsWhole) (a4 : Memref sig .tc .vmem S1024x20 .i16) (h4 : a4.IsWhole) (a5 : Memref sig .tc .vmem S1024x160 .i8) (h5 : a5.IsWhole) (a6 : Memref sig .tc .vmem S1024x160 .i8) (h6 : a6.IsWhole) (a7 : Memref sig .tc .vmem S512x512 .bf16) (h7 : a7.IsWhole) (a8 : Memref sig .tc .vmem S64x1024 .bf16) (h8 : a8.IsWhole) (a9 : Memref sig .tc .vmem S160x128 .i32) (h9 : a9.IsWhole) (a10 : Memref sig .tc .vmem S160x128 .i32) (h10 : a10.IsWhole) (a11 : Memref sig .tc .vmem S160x128 .f32) (h11 : a11.IsWhole) (a12 : Memref sig .tc .vmem S160x128 .f32) (h12 : a12.IsWhole) (a13 : Memref sig .tc .vmem S128x128 .i32) (h13 : a13.IsWhole) (a14 : Memref sig .tc .vmem S128x128 .i32) (h14 : a14.IsWhole) (a15 : Memref sig .tc .vmem S128x128 .i32) (h15 : a15.IsWhole) (a16 : Memref sig .tc .vmem S128x128 .i32) (h16 : a16.IsWhole) (a17 : Memref sig .tc .vmem S544x2x128 .bf16) (h17 : a17.IsWhole) (a18 : Memref sig .tc .vmem S544x2x128 .bf16) (h18 : a18.IsWhole) (a19 : Memref sig .tc .vmem S544x2x128 .bf16) (h19 : a19.IsWhole) (a20 : Memref sig .tc .vmem S544x2x128 .bf16) (h20 : a20.IsWhole) (x0 : Vec Ideal S64x5120 .bf16) (x1 : Vec Ideal S1024x2560 .i8) (x2 : Vec Ideal S1024x20 .i16) (x3 : Vec Ideal S1024x20 .i16) (x4 : Vec Ideal S1024x160 .i8) (x5 : Vec Ideal S1024x160 .i8) (x6 : Vec Ideal S512x512 .bf16) :
    out0_A_7 c i a1 h1 a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 = View.canon (outPieces ⟨c, i, a1, h1, a2, h2, a3, h3, a4, h4, a5, h5, a6, h6, a7, h7, a8, h8, a9, h9, a10, h10, a11, h11, a12, h12, a13, h13, a14, h14, a15, h15, a16, h16, a17, h17, a18, h18, a19, h19, a20, h20, x0, x1, x2, x3, x4, x5, x6⟩) :=
  View.read_writes_junk_eq_canon VO0_7 (outPieces ⟨c, i, a1, h1, a2, h2, a3, h3, a4, h4, a5, h5, a6, h6, a7, h7, a8, h8, a9, h9, a10, h10, a11, h11, a12, h12, a13, h13, a14, h14, a15, h15, a16, h16, a17, h17, a18, h18, a19, h19, a20, h20, x0, x1, x2, x3, x4, x5, x6⟩)

theorem outsAt0_eq (c : Dev nD) (t : Fin cfg0.N) : outsAt0 m c t = View.canon (outPieces (envAt m c t)) := by
  unfold outsAt0 envAt
  exact out_eq ..

theorem index0 : ∀ t : Fin cfg0.N, win0_0.index t = ![0, 0] := (by decide +kernel : ∀ t : Fin grid0.N, win0_0.index t = ![0, 0])
theorem index1 : ∀ t : Fin cfg0.N, win0_1.index t = ![t.val, 0] := (by decide +kernel : ∀ t : Fin grid0.N, win0_1.index t = ![t.val, 0])
theorem index2 : ∀ t : Fin cfg0.N, win0_2.index t = ![t.val, 0] := (by decide +kernel : ∀ t : Fin grid0.N, win0_2.index t = ![t.val, 0])
theorem index3 : ∀ t : Fin cfg0.N, win0_3.index t = ![t.val, 0] := (by decide +kernel : ∀ t : Fin grid0.N, win0_3.index t = ![t.val, 0])
theorem index4 : ∀ t : Fin cfg0.N, win0_4.index t = ![t.val, 0] := (by decide +kernel : ∀ t : Fin grid0.N, win0_4.index t = ![t.val, 0])
theorem index5 : ∀ t : Fin cfg0.N, win0_5.index t = ![t.val, 0] := (by decide +kernel : ∀ t : Fin grid0.N, win0_5.index t = ![t.val, 0])
theorem index6 : ∀ t : Fin cfg0.N, win0_6.index t = ![0, 0] := (by decide +kernel : ∀ t : Fin grid0.N, win0_6.index t = ![0, 0])
theorem index7 : ∀ t : Fin cfg0.N, win0_7.index t = ![0, t.val] := (by decide +kernel : ∀ t : Fin grid0.N, win0_7.index t = ![0, t.val])

theorem steps (t : Fin cfg0.N) : t.val < 27 := t.isLt

/-! ## The arguments, by coordinates -/

/-- The row `s` of `x`. -/
def aX (c : Dev nD) (s : Fin 64) (k : Fin 5120) : EReal := (m ((c.tc : Thread nD τ).loc main_arg0) : FVec Ideal S64x1x5120 .bf16) (ix3 s (0 : Fin 1) k)
/-- The packed codes. -/
def aQ (c : Dev nD) (o : Fin 27648) (j : Fin 2560) : BitVec 8 := (m ((c.tc : Thread nD τ).loc main_arg1) : IVec S27648x2560 8) (ix2 o j)
/-- The block scales. -/
def aD (c : Dev nD) (o : Fin 27648) (k : Fin 20) : BitVec 16 := (m ((c.tc : Thread nD τ).loc main_arg2) : IVec S27648x20 16) (ix2 o k)
/-- The block minima. -/
def aM (c : Dev nD) (o : Fin 27648) (k : Fin 20) : BitVec 16 := (m ((c.tc : Thread nD τ).loc main_arg3) : IVec S27648x20 16) (ix2 o k)
/-- The byte scales. -/
def aS (c : Dev nD) (o : Fin 27648) (k : Fin 160) : BitVec 8 := (m ((c.tc : Thread nD τ).loc main_arg4) : IVec S27648x160 8) (ix2 o k)
/-- The byte minima. -/
def aN (c : Dev nD) (o : Fin 27648) (k : Fin 160) : BitVec 8 := (m ((c.tc : Thread nD τ).loc main_arg5) : IVec S27648x160 8) (ix2 o k)

/-! ## A point's blocks, by coordinates -/

theorem drop_unit (A : FVec Ideal S64x1x5120 .bf16) (s : Fin 64) (k : Fin 5120) : shapeCast S64x5120 A shapeCasts_S64x1x5120_S64x5120 (ix2 s k) = A (ix3 s (0 : Fin 1) k) := by
  pointwise

theorem iblk_x (c : Dev nD) (t : Fin cfg0.N) (s : Fin 64) (k : Fin 5120) : ((iblk m c 0 t : Vec Ideal S64x5120 .bf16) (ix2 s k) : EReal) = aX m c s k := by
  blk_simp [iblk]
  rw [V_x2]
  have e : ((win0_0.blk t).view.emb (ix2 s k) : S64x5120.Idx) = ix2 s k := by blk_ext [index0]
  refine (congrArg (shapeCast S64x5120 (m ((c.tc : Thread nD τ).loc main_arg0)) shapeCasts_S64x1x5120_S64x5120) e).trans ?_
  exact drop_unit (m ((c.tc : Thread nD τ).loc main_arg0)) s k

theorem iblk_q (c : Dev nD) (t : Fin cfg0.N) (r : Fin 1024) (j : Fin 2560) :
    (iblk m c 1 t : Vec Ideal S1024x2560 .i8) (ix2 r j) = aQ m c ⟨1024 * t.val + r.val, by have := steps t; omega⟩ j := by
  blk_simp [iblk]
  rw [V_main_arg1]
  refine congrArg (m ((c.tc : Thread nD τ).loc main_arg1)) ?_
  blk_ext [index1]

theorem iblk_d (c : Dev nD) (t : Fin cfg0.N) (r : Fin 1024) (j : Fin 20) :
    (iblk m c 2 t : Vec Ideal S1024x20 .i16) (ix2 r j) = aD m c ⟨1024 * t.val + r.val, by have := steps t; omega⟩ j := by
  blk_simp [iblk]
  rw [V_main_arg2]
  refine congrArg (m ((c.tc : Thread nD τ).loc main_arg2)) ?_
  blk_ext [index2]

theorem iblk_m (c : Dev nD) (t : Fin cfg0.N) (r : Fin 1024) (j : Fin 20) :
    (iblk m c 3 t : Vec Ideal S1024x20 .i16) (ix2 r j) = aM m c ⟨1024 * t.val + r.val, by have := steps t; omega⟩ j := by
  blk_simp [iblk]
  rw [V_main_arg3]
  refine congrArg (m ((c.tc : Thread nD τ).loc main_arg3)) ?_
  blk_ext [index3]

theorem iblk_s (c : Dev nD) (t : Fin cfg0.N) (r : Fin 1024) (j : Fin 160) :
    (iblk m c 4 t : Vec Ideal S1024x160 .i8) (ix2 r j) = aS m c ⟨1024 * t.val + r.val, by have := steps t; omega⟩ j := by
  blk_simp [iblk]
  rw [V_main_arg4]
  refine congrArg (m ((c.tc : Thread nD τ).loc main_arg4)) ?_
  blk_ext [index4]

theorem iblk_n (c : Dev nD) (t : Fin cfg0.N) (r : Fin 1024) (j : Fin 160) :
    (iblk m c 5 t : Vec Ideal S1024x160 .i8) (ix2 r j) = aN m c ⟨1024 * t.val + r.val, by have := steps t; omega⟩ j := by
  blk_simp [iblk]
  rw [V_main_arg5]
  refine congrArg (m ((c.tc : Thread nD τ).loc main_arg5)) ?_
  blk_ext [index5]

theorem iblk_perm (c : Dev nD) (t : Fin cfg0.N) : IsPerm (iblk m c 6 t : Vec Ideal S512x512 .bf16) := by
  intro j n
  refine Eq.trans ?_ (perm_isPerm m c j n)
  blk_simp [iblk]
  refine congrArg (Gen.V m c main_v13) ?_
  blk_ext [index6]

/-! ## One block, and the array -/

section
open Cert.Words Cert.Spec

theorem tQ_eq (c : Dev nD) (t : Fin cfg0.N) (p ci : Nat) (hp : p < 2) (h : ci < 20) (R : Fin 512) (j : Fin 128) :
    tQ (envAt m c t) p ci hp h R j = aQ m c ⟨1024 * t.val + (512 * p + R.val), by have := steps t; omega⟩ ⟨128 * ci + j.val, by omega⟩ :=
  iblk_q m c t ⟨512 * p + R.val, by omega⟩ ⟨128 * ci + j.val, by omega⟩
theorem tS_eq (c : Dev nD) (t : Fin cfg0.N) (p : Nat) (hp : p < 2) (R : Fin 512) (j : Fin 160) :
    tS (envAt m c t) p hp R j = aS m c ⟨1024 * t.val + (512 * p + R.val), by have := steps t; omega⟩ j :=
  iblk_s m c t ⟨512 * p + R.val, by omega⟩ j
theorem tN_eq (c : Dev nD) (t : Fin cfg0.N) (p : Nat) (hp : p < 2) (R : Fin 512) (j : Fin 160) :
    tN (envAt m c t) p hp R j = aN m c ⟨1024 * t.val + (512 * p + R.val), by have := steps t; omega⟩ j :=
  iblk_n m c t ⟨512 * p + R.val, by omega⟩ j
theorem tD_eq (c : Dev nD) (t : Fin cfg0.N) (hd : ∀ o k, Fine (aD m c o k)) (p : Nat) (hp : p < 2) (R : Fin 512) (j : Fin 20) :
    tD (envAt m c t) p hp R j = Ideal.ieee 5 10 (aD m c ⟨1024 * t.val + (512 * p + R.val), by have := steps t; omega⟩ j) * ((512 : ℝ) : EReal) := by
  have e : (envAt m c t).x2 (ix2 ⟨512 * p + R.val, by omega⟩ j) = _ := iblk_d m c t ⟨512 * p + R.val, by omega⟩ j
  unfold tD
  rw [e, Half.decode_eq _ (hd _ _), ieee_512]
theorem tM_eq (c : Dev nD) (t : Fin cfg0.N) (hm : ∀ o k, Fine (aM m c o k)) (p : Nat) (hp : p < 2) (R : Fin 512) (j : Fin 20) :
    tM (envAt m c t) p hp R j = Ideal.ieee 5 10 (aM m c ⟨1024 * t.val + (512 * p + R.val), by have := steps t; omega⟩ j) := by
  have e : (envAt m c t).x3 (ix2 ⟨512 * p + R.val, by omega⟩ j) = _ := iblk_m m c t ⟨512 * p + R.val, by omega⟩ j
  unfold tM
  rw [e, Half.decode_eq _ (hm _ _), ieee_one, mul_one]

/-- A term of a chunk's sum is the term of the whole sum. -/
theorem weight_eq (c : Dev nD) (t : Fin cfg0.N) (hd : ∀ o k, Fine (aD m c o k)) (hm : ∀ o k, Fine (aM m c o k)) (p ci : Nat) (hp : p < 2) (h : ci < 20) (R : Fin 512) (k : Fin 256) :
    weight (tD (envAt m c t) p hp) (tM (envAt m c t) p hp) (tS (envAt m c t) p hp) (tN (envAt m c t) p hp) (tQ (envAt m c t) p ci hp h) ci h R k
      = wgt (aQ m c) (aD m c) (aM m c) (aS m c) (aN m c) ⟨1024 * t.val + (512 * p + R.val), by have := steps t; omega⟩ ⟨ci * 256 + k.val, by omega⟩ := by
  unfold weight wgt
  rw [tQ_eq, tS_eq, tN_eq, tD_eq m c t hd, tM_eq m c t hm, scale_cancel]
  have e2 : (ci * 256 + k.val) / 256 = ci := by omega
  have e3 : (ci * 256 + k.val) / 32 = 8 * ci + k.val / 32 := by omega
  have e4 : 32 * ((ci * 256 + k.val) / 64) + (ci * 256 + k.val) % 32 = 128 * ci + (32 * (k.val / 64) + k.val % 32) := by omega
  have e5 : (8 * ci + k.val / 32) % 2 = k.val / 32 % 2 := by omega
  simp only [e2, e3, e4, e5]
  rw [mul_comm (Ideal.ieee 5 10 (aM m c _ _))]

theorem block_value (c : Dev nD) (t : Fin cfg0.N) (hd : ∀ o k, Fine (aD m c o k)) (hm : ∀ o k, Fine (aM m c o k)) (s : Fin 64) (r : Fin 1024) :
    (outsAt0 m c t (ix2 s r) : EReal) = out (aX m c) (aQ m c) (aD m c) (aM m c) (aS m c) (aN m c) s ⟨1024 * t.val + r.val, by have := steps t; omega⟩ := by
  rw [outsAt0_eq]
  have hr : r = ⟨512 * (r.val / 512) + (⟨r.val % 512, by omega⟩ : Fin 512).val, by show 512 * (r.val / 512) + r.val % 512 < 1024; omega⟩ := Fin.ext (by show r.val = 512 * (r.val / 512) + r.val % 512; omega)
  refine (congrArg (fun q => View.canon (outPieces (envAt m c t)) (ix2 s q)) hr).trans ?_
  refine (out_value (envAt m c t) (iblk_perm m c t) (r.val / 512) (by omega) s ⟨r.val % 512, by omega⟩).trans ?_
  unfold partSum out
  refine Eq.trans ?_ (Fin.sum_univ_tiles 20 256 rfl _).symm
  refine Finset.sum_congr rfl fun i _ => Finset.sum_congr rfl fun k _ => ?_
  rw [weight_eq m c t hd hm]
  refine congrArg₂ (· * ·) ((iblk_x m c t s _).trans ?_) ?_
  · congr 1; exact Fin.ext (by show 256 * i.val + k.val = i.val * 256 + k.val; omega)
  · congr 1; exact Fin.ext (by show 1024 * t.val + (512 * (r.val / 512) + r.val % 512) = 1024 * t.val + r.val; omega)

/-- THE KERNEL'S RESULT: every entry is the product's. -/
theorem array_value (c : Dev nD) (hd : ∀ o k, Fine (aD m c o k)) (hm : ∀ o k, Fine (aM m c o k)) :
    (dats m 0 c).arrAt 7 cfg0.N = fun y : S64x27648.Idx => (out (aX m c) (aQ m c) (aD m c) (aM m c) (aS m c) (aN m c) (y 0) (y 1) : EReal) := by
  refine (dats m 0 c).arrAt_eq_of_covers 7 _ (by decide +kernel) fun t hf y => ?_
  blk_simp
  rw [after0_7]
  refine (congrArg (outsAt0 m c t) (show y = ix2 (y 0) (y 1) from eq_ix2 y)).trans ?_
  refine (block_value m c t hd hm (y 0) (y 1)).trans ?_
  refine congrArg₂ (out (aX m c) (aQ m c) (aD m c) (aM m c) (aS m c) (aN m c)) (Fin.ext ?_) (Fin.ext ?_)
  · blk_simp [index7]
  · blk_simp [index7]
    show 1024 * t.val + (y 1).val = t.val * 1024 + (y 1).val
    omega

end

end Cert.Tiles
-- ==== Proof.Refv.lean ====
module

public import proofs.«01_k».proof.Proof.Spec
public import proofs.«01_k».proof.Proof.Gen.ReferenceIdeal.Run
public import Idealize.ShloMosaic.Lib.Pipeline.ValueKit
public import Idealize.ShloMosaic.Lib.TwoAxisContraction

/-! The reference's result array. -/

@[expose] public section

noncomputable section

namespace Cert.Refv

open Idealize.ShloMosaic Cert.ReferenceIdeal Cert.ReferenceIdeal.Gen Idealize.ShloMosaic.TcCoe
open Idealize.ShloMosaic.ValueIdx (contrEquiv2 contrEquiv2_symm_val0 contrEquiv2_symm_val1 sum_contr2)

/-! ## The contraction and its operands, by coordinates -/

theorem dot_apply (L : FVec Ideal S64x1x80x32 .bf16) (R : FVec Ideal S27648x80x32 .bf16) (s : Fin 64) (o : Fin 27648) :
    (Host.dotGeneral dot_S64x1x80x32_S27648x80x32_S64x1x27648_23_12_01_0_n_n none L R (ix3 s (0 : Fin 1) o) : EReal)
      = ∑ g : Fin 80, ∑ j : Fin 32, (L (ix4 s (0 : Fin 1) g j) : EReal) * R (ix3 o g j) := by
  let D := dot_S64x1x80x32_S27648x80x32_S64x1x27648_23_12_01_0_n_n
  have hr : D.contr.rank = 2 := rfl
  have c0 : D.contr.size ⟨0, by rw [hr]; omega⟩ = 80 := rfl
  have c1 : D.contr.size ⟨1, by rw [hr]; omega⟩ = 32 := rfl
  simp only [Host.dotGeneral]
  rw [Ideal.dotGeneral_apply, sum_contr2 D 80 32 hr c0 c1]
  refine Finset.sum_congr rfl fun g _ => Finset.sum_congr rfl fun j _ => ?_
  have h0 := contrEquiv2_symm_val0 D 80 32 hr c0 c1 (g, j)
  have h1 := contrEquiv2_symm_val1 D 80 32 hr c0 c1 (g, j)
  have el : D.lhsIdx (ix3 s (0 : Fin 1) o) ((contrEquiv2 D 80 32 hr c0 c1).symm (g, j)) = ix4 s (0 : Fin 1) g j := by
    funext a; apply Fin.ext
    match a with
    | ⟨0, _⟩ => rfl
    | ⟨1, _⟩ => rfl
    | ⟨2, _⟩ => exact h0
    | ⟨3, _⟩ => exact h1
  have er : D.rhsIdx (ix3 s (0 : Fin 1) o) ((contrEquiv2 D 80 32 hr c0 c1).symm (g, j)) = ix3 o g j := by
    funext a; apply Fin.ext
    match a with
    | ⟨0, _⟩ => rfl
    | ⟨1, _⟩ => exact h0
    | ⟨2, _⟩ => exact h1
  rw [el, er]

theorem x_lo (A : FVec Ideal S64x1x5120 .bf16) (s : Fin 64) (g : Fin 80) (j : Fin 32) :
    shapeCast S64x1x80x32 (extractStridedSlice S64x1x80x1x32 ![0, 0, 0, 0, 0] (shapeCast S64x1x80x2x32 A shapeCasts_S64x1x5120_S64x1x80x2x32) slices_S64x1x80x2x32_S64x1x80x1x32_0_0_0_0_0) shapeCasts_S64x1x80x1x32_S64x1x80x32 (ix4 s (0 : Fin 1) g j)
      = A (ix3 s (0 : Fin 1) ⟨g.val * 64 + j.val, by omega⟩) := by
  pointwise

theorem x_hi (A : FVec Ideal S64x1x5120 .bf16) (s : Fin 64) (g : Fin 80) (j : Fin 32) :
    shapeCast S64x1x80x32 (extractStridedSlice S64x1x80x1x32 ![0, 0, 0, 1, 0] (shapeCast S64x1x80x2x32 A shapeCasts_S64x1x5120_S64x1x80x2x32) slices_S64x1x80x2x32_S64x1x80x1x32_0_0_0_1_0) shapeCasts_S64x1x80x1x32_S64x1x80x32 (ix4 s (0 : Fin 1) g j)
      = A (ix3 s (0 : Fin 1) ⟨g.val * 64 + (32 + j.val), by omega⟩) := by
  pointwise
  congr 1
  idx_ext

/-- The decoded weights of one half of the codes, as the reference composes them. -/
def dequant (q : IVec S27648x80x32 32) (D M : FVec Ideal S27648x20 .f32) (sc mn : IVec S27648x80 8) : FVec Ideal S27648x80x32 .bf16 :=
  truncf .bf16 (subf (mulf (sitofp .f32 q) (broadcastInDim S27648x80x32 ![0, 1, 2] bcast_S27648x80x1_S27648x80x32_0_1_2 (broadcastInDim S27648x80x1 ![0, 1] bcast_S27648x80_S27648x80x1_0_1 (mulf (shapeCast _ (broadcastInDim S27648x20x4 ![0, 1] bcast_S27648x20_S27648x20x4_0_1 D) shapeCasts_S27648x20x4_S27648x80) (sitofp .f32 (extui 32 sc natLt_8_32)))))) (broadcastInDim S27648x80x32 ![0, 1, 2] bcast_S27648x80x1_S27648x80x32_0_1_2 (broadcastInDim S27648x80x1 ![0, 1] bcast_S27648x80_S27648x80x1_0_1 (mulf (shapeCast _ (broadcastInDim S27648x20x4 ![0, 1] bcast_S27648x20_S27648x20x4_0_1 M) shapeCasts_S27648x20x4_S27648x80) (sitofp .f32 (extui 32 mn natLt_8_32)))))) bitsLt_bf16_f32

theorem dequant_apply (q : IVec S27648x80x32 32) (D M : FVec Ideal S27648x20 .f32) (sc mn : IVec S27648x80 8) (o : Fin 27648) (g : Fin 80) (j : Fin 32) :
    (dequant q D M sc mn (ix3 o g j) : EReal) = (((q (ix3 o g j)).toInt : ℝ) : EReal) * ((D (ix2 o ⟨g.val / 4, by omega⟩) : EReal) * ((((sc (ix2 o g)).setWidth 32).toInt : ℝ) : EReal))
      - (M (ix2 o ⟨g.val / 4, by omega⟩) : EReal) * ((((mn (ix2 o g)).setWidth 32).toInt : ℝ) : EReal) := by
  pointwise [dequant]
  rfl

theorem every_lo (S : IVec S27648x160 8) (o : Fin 27648) (g : Fin 80) :
    Host.slice S27648x80 ![0, 0] ![1, 2] S slicesBy_S27648x160_S27648x80_0s1_0s2 (ix2 o g) = S (ix2 o ⟨2 * g.val, by omega⟩) := by
  pointwise

theorem every_hi (S : IVec S27648x160 8) (o : Fin 27648) (g : Fin 80) :
    Host.slice S27648x80 ![0, 1] ![1, 2] S slicesBy_S27648x160_S27648x80_0s1_1s2 (ix2 o g) = S (ix2 o ⟨2 * g.val + 1, by omega⟩) := by
  pointwise
  congr 2
  exact Fin.ext (Nat.add_comm 1 _)

theorem and_15 : ∀ b : BitVec 8, (IntOp.andi (b.setWidth 32) 15#32).toInt = (Words.nib 0 b : Int) := by decide +kernel

theorem shr_4 : ∀ b : BitVec 8, (IntOp.shrsi .host (b.setWidth 32) 4#32).toInt = (Words.nib 1 b : Int) := by decide +kernel

theorem widen : ∀ b : BitVec 8, (b.setWidth 32).toInt = (b.toNat : Int) := by decide +kernel

theorem codes_lo (Q : IVec S27648x2560 8) (o : Fin 27648) (g : Fin 80) (j : Fin 32) :
    (andi (shapeCast S27648x80x32 (extui 32 Q natLt_8_32) shapeCasts_S27648x2560_S27648x80x32) (broadcastInDim S27648x80x32 ![] bcast_S_S27648x80x32 (constantI S_ 32 15#32)) (ix3 o g j)).toInt
      = (Words.nib 0 (Q (ix2 o ⟨32 * g.val + j.val, by omega⟩)) : Int) := by
  pointwise
  rw [and_15]
  congr 3
  exact congrArg (ix2 o) (Fin.ext (by show g.val * 32 + j.val = 32 * g.val + j.val; omega))

theorem codes_hi (Q : IVec S27648x2560 8) (o : Fin 27648) (g : Fin 80) (j : Fin 32) :
    (Host.shrsi (shapeCast S27648x80x32 (extui 32 Q natLt_8_32) shapeCasts_S27648x2560_S27648x80x32) (broadcastInDim S27648x80x32 ![] bcast_S_S27648x80x32 (constantI S_ 32 4#32)) (ix3 o g j)).toInt
      = (Words.nib 1 (Q (ix2 o ⟨32 * g.val + j.val, by omega⟩)) : Int) := by
  pointwise
  rw [shr_4]
  congr 3
  exact congrArg (ix2 o) (Fin.ext (by show g.val * 32 + j.val = 32 * g.val + j.val; omega))

/-! ## The decoded words -/

variable (m : (ℓ : Loc nD τ sig) → Buf (Elt Ideal) ℓ)

theorem pay1_apply (w : Vec Ideal S27648x20 .i16) (y : S27648x20.Idx) : (k0_pay1 w y : EReal) = Ideal.ieee 5 10 (w y) := by
  pointwise [k0_pay1]
  rfl

theorem pay2_apply (w : Vec Ideal S27648x20 .i16) (y : S27648x20.Idx) : (k0_pay2 w y : EReal) = Ideal.ieee 5 10 (w y) := by
  pointwise [k0_pay2]
  rfl

/-- The decoded block scales. -/
theorem reg0 (c : Dev nD) : Value.reg_main_v6_0 m c = fun y : S27648x20.Idx => Ideal.ieee 5 10 ((m ((c.tc : Thread nD τ).loc main_arg2) : IVec S27648x20 16) y) := by
  unfold Value.reg_main_v6_0
  refine (dats m 0 c).arrAt_eq_of_covers 2 _ (by decide +kernel) fun t hf y => ?_
  blk_simp
  rw [after0_2]
  frame_out
  refine (pay1_apply _ _).trans ?_
  blk_simp [iblk]
  rw [V_main_arg2]
  rfl

/-- The decoded block minima. -/
theorem reg1 (c : Dev nD) : Value.reg_main_v6_1 m c = fun y : S27648x20.Idx => Ideal.ieee 5 10 ((m ((c.tc : Thread nD τ).loc main_arg3) : IVec S27648x20 16) y) := by
  unfold Value.reg_main_v6_1
  refine (dats m 0 c).arrAt_eq_of_covers 3 _ (by decide +kernel) fun t hf y => ?_
  blk_simp
  rw [after0_3]
  frame_out
  refine (pay2_apply _ _).trans ?_
  blk_simp [iblk]
  rw [V_main_arg3]
  rfl

/-! ## The arguments, by coordinates -/

/-- The row `s` of `x`. -/
def aX (c : Dev nD) (s : Fin 64) (k : Fin 5120) : EReal := (m ((c.tc : Thread nD τ).loc main_arg0) : FVec Ideal S64x1x5120 .bf16) (ix3 s (0 : Fin 1) k)
/-- The packed codes. -/
def aQ (c : Dev nD) (o : Fin 27648) (j : Fin 2560) : BitVec 8 := (m ((c.tc : Thread nD τ).loc main_arg1) : IVec S27648x2560 8) (ix2 o j)
/-- The block scales. -/
def aD (c : Dev nD) (o : Fin 27648) (k : Fin 20) : BitVec 16 := (m ((c.tc : Thread nD τ).loc main_arg2) : IVec S27648x20 16) (ix2 o k)
/-- The block minima. -/
def aM (c : Dev nD) (o : Fin 27648) (k : Fin 20) : BitVec 16 := (m ((c.tc : Thread nD τ).loc main_arg3) : IVec S27648x20 16) (ix2 o k)
/-- The byte scales. -/
def aS (c : Dev nD) (o : Fin 27648) (k : Fin 160) : BitVec 8 := (m ((c.tc : Thread nD τ).loc main_arg4) : IVec S27648x160 8) (ix2 o k)
/-- The byte minima. -/
def aN (c : Dev nD) (o : Fin 27648) (k : Fin 160) : BitVec 8 := (m ((c.tc : Thread nD τ).loc main_arg5) : IVec S27648x160 8) (ix2 o k)

section
open Cert.Spec

/-- The product's sum, by groups of 64 columns and their halves. -/
theorem out_split (x : Fin 64 → Fin 5120 → EReal) (qs : Fin 27648 → Fin 2560 → BitVec 8) (d dm : Fin 27648 → Fin 20 → BitVec 16) (sc mn : Fin 27648 → Fin 160 → BitVec 8) (s : Fin 64) (o : Fin 27648) :
    out x qs d dm sc mn s o
      = (∑ g : Fin 80, ∑ j : Fin 32, x s ⟨g.val * 64 + j.val, by omega⟩ * wgt qs d dm sc mn o ⟨g.val * 64 + j.val, by omega⟩)
        + ∑ g : Fin 80, ∑ j : Fin 32, x s ⟨g.val * 64 + (32 + j.val), by omega⟩ * wgt qs d dm sc mn o ⟨g.val * 64 + (32 + j.val), by omega⟩ := by
  unfold out
  rw [Fin.sum_univ_tiles 80 64 rfl, ← Finset.sum_add_distrib]
  refine Finset.sum_congr rfl fun g _ => ?_
  exact Fin.sum_univ_add (a := 32) (b := 32) _

variable (qs : Fin 27648 → Fin 2560 → BitVec 8) (d dm : Fin 27648 → Fin 20 → BitVec 16) (sc mn : Fin 27648 → Fin 160 → BitVec 8)

theorem wgt_lo (o : Fin 27648) (g : Fin 80) (j : Fin 32) :
    wgt qs d dm sc mn o ⟨g.val * 64 + j.val, by omega⟩
      = (((Words.nib 0 (qs o ⟨32 * g.val + j.val, by omega⟩) : ℝ)) : EReal) * (Ideal.ieee 5 10 (d o ⟨g.val / 4, by omega⟩) * (((sc o ⟨2 * g.val, by omega⟩).toNat : ℝ) : EReal))
        - Ideal.ieee 5 10 (dm o ⟨g.val / 4, by omega⟩) * (((mn o ⟨2 * g.val, by omega⟩).toNat : ℝ) : EReal) := by
  unfold wgt
  have e1 : (g.val * 64 + j.val) / 32 = 2 * g.val := by omega
  have e2 : (g.val * 64 + j.val) / 256 = g.val / 4 := by omega
  have e3 : 32 * ((g.val * 64 + j.val) / 64) + (g.val * 64 + j.val) % 32 = 32 * g.val + j.val := by omega
  have e4 : 2 * g.val % 2 = 0 := by omega
  simp only [e1, e2, e3, e4]

theorem wgt_hi (o : Fin 27648) (g : Fin 80) (j : Fin 32) :
    wgt qs d dm sc mn o ⟨g.val * 64 + (32 + j.val), by omega⟩
      = (((Words.nib 1 (qs o ⟨32 * g.val + j.val, by omega⟩) : ℝ)) : EReal) * (Ideal.ieee 5 10 (d o ⟨g.val / 4, by omega⟩) * (((sc o ⟨2 * g.val + 1, by omega⟩).toNat : ℝ) : EReal))
        - Ideal.ieee 5 10 (dm o ⟨g.val / 4, by omega⟩) * (((mn o ⟨2 * g.val + 1, by omega⟩).toNat : ℝ) : EReal) := by
  unfold wgt
  have e1 : (g.val * 64 + (32 + j.val)) / 32 = 2 * g.val + 1 := by omega
  have e2 : (g.val * 64 + (32 + j.val)) / 256 = g.val / 4 := by omega
  have e3 : 32 * ((g.val * 64 + (32 + j.val)) / 64) + (g.val * 64 + (32 + j.val)) % 32 = 32 * g.val + j.val := by omega
  have e4 : (2 * g.val + 1) % 2 = 1 := by omega
  simp only [e1, e2, e3, e4]

end

/-- The reference's last operations: the sum of the two halves. -/
theorem last_apply (A B : FVec Ideal S64x1x27648 .f32) (s : Fin 64) (o : Fin 27648) :
    (shapeCast S64x27648 (truncf .bf16 (addf A B) bitsLt_bf16_f32) shapeCasts_S64x1x27648_S64x27648 (ix2 s o) : EReal) = A (ix3 s (0 : Fin 1) o) + B (ix3 s (0 : Fin 1) o) := by
  pointwise

/-- The reference's result, of its arguments and the decoded words. -/
def result (A : FVec Ideal S64x1x5120 .bf16) (Q : IVec S27648x2560 8) (D M : FVec Ideal S27648x20 .f32) (S N : IVec S27648x160 8) : FVec Ideal S64x27648 .bf16 :=
  shapeCast S64x27648 (truncf .bf16 (addf
    (Host.dotGeneral dot_S64x1x80x32_S27648x80x32_S64x1x27648_23_12_01_0_n_n none
      (shapeCast S64x1x80x32 (extractStridedSlice S64x1x80x1x32 ![0, 0, 0, 0, 0] (shapeCast S64x1x80x2x32 A shapeCasts_S64x1x5120_S64x1x80x2x32) slices_S64x1x80x2x32_S64x1x80x1x32_0_0_0_0_0) shapeCasts_S64x1x80x1x32_S64x1x80x32)
      (dequant (andi (shapeCast S27648x80x32 (extui 32 Q natLt_8_32) shapeCasts_S27648x2560_S27648x80x32) (broadcastInDim S27648x80x32 ![] bcast_S_S27648x80x32 (constantI S_ 32 15#32))) D M
        (Host.slice S27648x80 ![0, 0] ![1, 2] S slicesBy_S27648x160_S27648x80_0s1_0s2) (Host.slice S27648x80 ![0, 0] ![1, 2] N slicesBy_S27648x160_S27648x80_0s1_0s2)))
    (Host.dotGeneral dot_S64x1x80x32_S27648x80x32_S64x1x27648_23_12_01_0_n_n none
      (shapeCast S64x1x80x32 (extractStridedSlice S64x1x80x1x32 ![0, 0, 0, 1, 0] (shapeCast S64x1x80x2x32 A shapeCasts_S64x1x5120_S64x1x80x2x32) slices_S64x1x80x2x32_S64x1x80x1x32_0_0_0_1_0) shapeCasts_S64x1x80x1x32_S64x1x80x32)
      (dequant (Host.shrsi (shapeCast S27648x80x32 (extui 32 Q natLt_8_32) shapeCasts_S27648x2560_S27648x80x32) (broadcastInDim S27648x80x32 ![] bcast_S_S27648x80x32 (constantI S_ 32 4#32))) D M
        (Host.slice S27648x80 ![0, 1] ![1, 2] S slicesBy_S27648x160_S27648x80_0s1_1s2) (Host.slice S27648x80 ![0, 1] ![1, 2] N slicesBy_S27648x160_S27648x80_0s1_1s2)))) bitsLt_bf16_f32) shapeCasts_S64x1x27648_S64x27648

theorem result_apply (A : FVec Ideal S64x1x5120 .bf16) (Q : IVec S27648x2560 8) (dw mw : IVec S27648x20 16) (S N : IVec S27648x160 8) (s : Fin 64) (o : Fin 27648) :
    (result A Q (fun y => Ideal.ieee 5 10 (dw y)) (fun y => Ideal.ieee 5 10 (mw y)) S N (ix2 s o) : EReal)
      = Spec.out (fun s k => A (ix3 s (0 : Fin 1) k)) (fun o j => Q (ix2 o j)) (fun o k => dw (ix2 o k)) (fun o k => mw (ix2 o k)) (fun o k => S (ix2 o k)) (fun o k => N (ix2 o k)) s o := by
  unfold result
  rw [last_apply, dot_apply, dot_apply, out_split]
  refine congrArg₂ (· + ·) (Finset.sum_congr rfl fun g _ => Finset.sum_congr rfl fun j _ => ?_) (Finset.sum_congr rfl fun g _ => Finset.sum_congr rfl fun j _ => ?_)
  · rw [x_lo, dequant_apply, wgt_lo, codes_lo, every_lo, every_lo, widen, widen]
    simp only [Int.cast_natCast]
  · rw [x_hi, dequant_apply, wgt_hi, codes_hi, every_hi, every_hi, widen, widen]
    simp only [Int.cast_natCast]

/-- THE REFERENCE'S RUN: its result is the product, its arguments are unchanged. -/
theorem run_value (ρ : Dev nD → PrngReg) :
    θ_run defs (onTc (τ := τ) (main (F := Ideal))) ⟨m, fun _ => 0, ρ⟩ fun r => ∀ c : Dev nD,
      r.2.mem ((c.tc : Thread nD τ).loc main_v52) = (fun y : S64x27648.Idx => (Spec.out (aX m c) (aQ m c) (aD m c) (aM m c) (aS m c) (aN m c) (y 0) (y 1) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨?_, (h c).2⟩) (Value.run m ρ)
  refine (h c).1.trans ?_
  rw [reg0, reg1]
  funext y
  refine Eq.trans ?_ (result_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (y 0) (y 1))
  exact congrArg (result (m ((c.tc : Thread nD τ).loc main_arg0)) (m ((c.tc : Thread nD τ).loc main_arg1)) _ _ (m ((c.tc : Thread nD τ).loc main_arg4)) (m ((c.tc : Thread nD τ).loc main_arg5))) (eq_ix2 y)

end Cert.Refv
-- ==== Proof.Words16.lean ====
module

public import proofs.«01_k».proof.Defs
public import proofs.«01_k».proof.Proof.Spec

/-! What the precondition says of a word. -/

@[expose] public section

noncomputable section

namespace Cert.Fine

open Idealize.ShloMosaic Cert.Pre_no_negative_nan Cert.Pre_no_negative_nan.Facts

instance facts : Cert.Pre_no_negative_nan.Facts where
  natLt_16_32 := by decide
  bcast_S_S27648x20 := by decide

theorem fine_of (w : BitVec 16) (h : IntOp.ori (IntOp.cmpi .sge (w.signExtend 32) 0#32) (IntOp.cmpi .sle (w.signExtend 32) 4294966272#32) = 1#1) : Spec.Fine w := by
  have e : (w.signExtend 32).toInt = w.toInt := BitVec.toInt_signExtend_of_le (by omega)
  unfold Spec.Fine
  simp only [IntOp.ori, IntOp.cmpi] at h
  rw [BitVec.sle_eq_decide, BitVec.sle_eq_decide, e] at h
  by_cases h0 : 0 ≤ w.toInt
  · exact .inl h0
  · by_cases h1 : w.toInt ≤ -1024
    · exact .inr h1
    · have z0 : decide ((0#32).toInt ≤ w.toInt) = false := decide_eq_false h0
      have z1 : decide (w.toInt ≤ (4294966272#32).toInt) = false := decide_eq_false h1
      rw [z0, z1] at h
      exact absurd h (by decide)

/-- Under the precondition no word of the two arrays is a NaN of negative sign. -/
theorem fine_d (a0 : FVec Ideal S64x1x5120 .bf16) (a1 : IVec S27648x2560 8) (a2 a3 : IVec S27648x20 16) (a4 a5 : IVec S27648x160 8)
    (h : (fn (F := Ideal) a0 a1 a2 a3 a4 a5).1 = fun _ => 1#1) (o : Fin 27648) (k : Fin 20) : Spec.Fine (a2 (ix2 o k)) := by
  refine fine_of _ ?_
  have e := congrFun h (ix2 o k)
  refine Eq.trans ?_ e
  pointwise [fn]

theorem fine_m (a0 : FVec Ideal S64x1x5120 .bf16) (a1 : IVec S27648x2560 8) (a2 a3 : IVec S27648x20 16) (a4 a5 : IVec S27648x160 8)
    (h : (fn (F := Ideal) a0 a1 a2 a3 a4 a5).2 = fun _ => 1#1) (o : Fin 27648) (k : Fin 20) : Spec.Fine (a3 (ix2 o k)) := by
  refine fine_of _ ?_
  have e := congrFun h (ix2 o k)
  refine Eq.trans ?_ e
  pointwise [fn]

end Cert.Fine
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Kern
public import proofs.«01_k».proof.Proof.Refv
public import proofs.«01_k».proof.Proof.Words16
public import Idealize.ShloMosaic.Lib.Bf16Pair
public import Idealize.ShloMosaic.Lib.Bf16PairInverse

@[expose] public section

noncomputable section

namespace Cert.Proof

open Idealize.ShloMosaic Idealize.ShloMosaic.TcCoe

/-- The rewrites of the printed kernel are the pairs of two bf16 values held in one 32-bit word. -/
theorem preserves : preserves_Kernel_KernelIdeal :=
  ⟨IdealRules.bf16_pair.bufferStatement _ _, IdealRules.bf16_pair.packStatement _, IdealRules.bf16_pair.statement _ _, IdealRules.bf16_pair.statement _ _, IdealRules.bf16_pair.statement _ _⟩

/-- Kernel and reference end with one result: the product of `x` with the decoded weights. -/
theorem algebraic : algebraic_KernelIdeal_ReferenceIdeal_pre_no_negative_nan := by
  intro m g m' g' hp hargs
  refine ⟨fun c => fun y : KernelIdeal.S64x27648.Idx => (Spec.out (Tiles.aX m c) (Tiles.aQ m c) (Tiles.aD m c) (Tiles.aM m c) (Tiles.aS m c) (Tiles.aN m c) (y 0) (y 1) : EReal), ?_, ?_⟩
  · refine (θ_run Cert.KernelIdeal.defs _ _).mono (fun r h c => ⟨(h c).1.trans ?_, (h c).2⟩) (Cert.KernelIdeal.Value.run_blocks m g)
    exact Tiles.array_value m c (fun o k => Fine.fine_d _ _ _ _ _ _ (hp c).1 o k) (fun o k => Fine.fine_m _ _ _ _ _ _ (hp c).2 o k)
  · refine (θ_run Cert.ReferenceIdeal.defs _ _).mono (fun r h c => ⟨(h c).1.trans ?_, (h c).2⟩) (Refv.run_value m' g')
    have hx : Refv.aX m' c = Tiles.aX m c := by funext s k; exact congrFun (hargs c).1 (ix3 s (0 : Fin 1) k)
    have hq : Refv.aQ m' c = Tiles.aQ m c := by funext o k; exact congrFun (hargs c).2.1 (ix2 o k)
    have hd : Refv.aD m' c = Tiles.aD m c := by funext o k; exact congrFun (hargs c).2.2.1 (ix2 o k)
    have hm : Refv.aM m' c = Tiles.aM m c := by funext o k; exact congrFun (hargs c).2.2.2.1 (ix2 o k)
    have hs : Refv.aS m' c = Tiles.aS m c := by funext o k; exact congrFun (hargs c).2.2.2.2.1 (ix2 o k)
    have hn : Refv.aN m' c = Tiles.aN m c := by funext o k; exact congrFun (hargs c).2.2.2.2.2 (ix2 o k)
    rw [hx, hq, hd, hm, hs, hn]

/-- Everything claimed. -/
theorem claim : Cert.Claim :=
  ⟨Cert.Kernel.Gen.facts, Cert.KernelIdeal.Gen.facts, Cert.ReferenceIdeal.Gen.facts, Cert.Fine.facts,
    fun m g _ => Cert.Kernel.Gen.frame m g, fun m g _ => Cert.KernelIdeal.Gen.frame m g, fun m g _ => Cert.KernelIdeal.Gen.frame m g,
    fun m g _ => Cert.ReferenceIdeal.Gen.frame m g, fun m g _ => Cert.ReferenceIdeal.Gen.frame m g, preserves, algebraic⟩

end Cert.Proof
